-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  IdealRules.named_const.Statement Cert.KernelIdeal.κ "eps_sq" .f32 0x179ABE15#32 ((5316911940649 / 5316911983139663491615228241121378304 : ℝ) : EReal)
  ∧ IdealRules.named_const.Statement Cert.KernelIdeal.κ "inv_temperature" .f32 0x4036DB6E#32 ((33554432 / 11744051 : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x8192x1024 : Shape := ⟨3, ![4, 8192, 1024]⟩
abbrev S32x1024 : Shape := ⟨2, ![32, 1024]⟩
abbrev S32 : Shape := ⟨1, ![32]⟩
abbrev S32768x1024 : Shape := ⟨2, ![32768, 1024]⟩
abbrev S1x32 : Shape := ⟨2, ![1, 32]⟩
abbrev S3x2048x1024 : Shape := ⟨3, ![3, 2048, 1024]⟩
abbrev S4x2048x1024 : Shape := ⟨3, ![4, 2048, 1024]⟩
abbrev S3 : Shape := ⟨1, ![3]⟩
abbrev S4 : Shape := ⟨1, ![4]⟩
abbrev S_ : Shape := ⟨0, ![]⟩
abbrev S1 : Shape := ⟨1, ![1]⟩
abbrev S1x2048x1024 : Shape := ⟨3, ![1, 2048, 1024]⟩
abbrev S2048x1024 : Shape := ⟨2, ![2048, 1024]⟩
abbrev S32x1 : Shape := ⟨2, ![32, 1]⟩
abbrev S2048 : Shape := ⟨1, ![2048]⟩
abbrev S2048x1 : Shape := ⟨2, ![2048, 1]⟩
abbrev S2048x32 : Shape := ⟨2, ![2048, 32]⟩
abbrev S1x1x32 : Shape := ⟨3, ![1, 1, 32]⟩
abbrev S1x1x1 : Shape := ⟨3, ![1, 1, 1]⟩

abbrev nBuf : Space → Nat
  | .hbm => 7
  | .vmem => 4
  | .smem => 0
  | _ => 0

abbrev bufTy : (tb : Table) → Fin (tcTables nBuf tb) → BufTy
  | .hbm, ⟨0, _⟩ => ⟨S4x8192x1024, .f32⟩
  | .hbm, ⟨1, _⟩ => ⟨S32x1024, .f32⟩
  | .hbm, ⟨2, _⟩ => ⟨S32, .f32⟩
  | .hbm, ⟨3, _⟩ => ⟨S32768x1024, .f32⟩
  | .hbm, ⟨4, _⟩ => ⟨S1x32, .f32⟩
  | .hbm, ⟨5, _⟩ => ⟨S32768x1024, .f32⟩
  | .hbm, ⟨6, _⟩ => ⟨S4x8192x1024, .f32⟩
  | .local _ .vmem, ⟨0, _⟩ => ⟨S3x2048x1024, .f32⟩
  | .local _ .vmem, ⟨1, _⟩ => ⟨S4x2048x1024, .f32⟩
  | .local _ .vmem, ⟨2, _⟩ => ⟨S32x1024, .f32⟩
  | .local _ .vmem, ⟨3, _⟩ => ⟨S1x32, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c2_i32 : BitVec 32 := 2#32
  let v5 : BitVec 32 := Scalar.addi arg0 c2_i32
  let c16_i32 : BitVec 32 := 16#32
  let v6 : BitVec 1 := Scalar.cmpi .slt v5 c16_i32
  let v7 : BitVec 32 := Scalar.extui v6
  let c0_i32_1 : BitVec 32 := 0#32
  let v8 : BitVec 1 := Scalar.cmpi .ne v7 c0_i32_1
  v8

def k0_off1 (i : grid0.Coords) : Fin 1 → Nat :=
  let arg0 : BitVec 32 := BitVec.ofNat 32 (i 0).val
  let c2_i32_31 : BitVec 32 := 2#32
  let v79 : BitVec 32 := Scalar.addi arg0 c2_i32_31
  let c3_i32_32 : BitVec 32 := 3#32
  let v80 : BitVec 32 := Scalar.remsi v79 c3_i32_32
  ![v80.toNat]
def k0_off2 (i : grid0.Coords) : Fin 3 → Nat :=
  let arg0 : BitVec 32 := BitVec.ofNat 32 (i 0).val
  let c2_i32_31 : BitVec 32 := 2#32
  let v79 : BitVec 32 := Scalar.addi arg0 c2_i32_31
  let c3_i32_32 : BitVec 32 := 3#32
  let v80 : BitVec 32 := Scalar.remsi v79 c3_i32_32
  let c0_i32_34 : BitVec 32 := 0#32
  let c0_i32_35 : BitVec 32 := 0#32
  ![v80.toNat, 0, 0]
def k0_off3 (i : grid0.Coords) : Fin 2 → Nat :=
  let arg0 : BitVec 32 := BitVec.ofNat 32 (i 0).val
  let c2_i32_30 : BitVec 32 := 2#32
  let v78 : BitVec 32 := Scalar.addi arg0 c2_i32_30
  let c2048_i32_33 : BitVec 32 := 2048#32
  let v81 : BitVec 32 := Scalar.muli v78 c2048_i32_33
  let c0_i32_36 : BitVec 32 := 0#32
  ![v81.toNat, 0]
def k0_cond3 (i : grid0.Coords) : BitVec 1 :=
  let arg0 : BitVec 32 := BitVec.ofNat 32 (i 0).val
  let c4_i32_2 : BitVec 32 := 4#32
  let v9 : BitVec 1 := Scalar.cmpi .sge arg0 c4_i32_2
  let v10 : BitVec 32 := Scalar.extui v9
  let c0_i32_3 : BitVec 32 := 0#32
  let v11 : BitVec 1 := Scalar.cmpi .ne v10 c0_i32_3
  v11

def k0_off4 (i : grid0.Coords) : Fin 1 → Nat :=
  let arg0 : BitVec 32 := BitVec.ofNat 32 (i 0).val
  let c4_i32 : BitVec 32 := 4#32
  let v1 : BitVec 32 := Scalar.remsi arg0 c4_i32
  ![v1.toNat]
def k0_off5 (i : grid0.Coords) : Fin 2 → Nat :=
  let arg0 : BitVec 32 := BitVec.ofNat 32 (i 0).val
  let c4_i32_30 : BitVec 32 := 4#32
  let v78 : BitVec 32 := Scalar.subi arg0 c4_i32_30
  let c2048_i32_31 : BitVec 32 := 2048#32
  let v79 : BitVec 32 := Scalar.muli v78 c2048_i32_31
  let c0_i32_32 : BitVec 32 := 0#32
  ![v79.toNat, 0]
def k0_off6 (i : grid0.Coords) : Fin 3 → Nat :=
  let arg0 : BitVec 32 := BitVec.ofNat 32 (i 0).val
  let c4_i32 : BitVec 32 := 4#32
  let v1 : BitVec 32 := Scalar.remsi arg0 c4_i32
  let c0_i32_33 : BitVec 32 := 0#32
  let c0_i32_34 : BitVec 32 := 0#32
  ![v1.toNat, 0, 0]
def k0_off7 (i : grid0.Coords) : Fin 1 → Nat :=
  let arg0 : BitVec 32 := BitVec.ofNat 32 (i 0).val
  let c3_i32 : BitVec 32 := 3#32
  let v0 : BitVec 32 := Scalar.remsi arg0 c3_i32
  ![v0.toNat]
def k0_off8 (i : grid0.Coords) : Fin 3 → Nat :=
  let arg0 : BitVec 32 := BitVec.ofNat 32 (i 0).val
  let c3_i32 : BitVec 32 := 3#32
  let v0 : BitVec 32 := Scalar.remsi arg0 c3_i32
  let c0_i32_6 : BitVec 32 := 0#32
  let c0_i32_7 : BitVec 32 := 0#32
  ![v0.toNat, 0, 0]
def k0_off9 (i : grid0.Coords) : Fin 2 → Nat :=
  let arg0 : BitVec 32 := BitVec.ofNat 32 (i 0).val
  let c2048_i32 : BitVec 32 := 2048#32
  let v15 : BitVec 32 := Scalar.muli arg0 c2048_i32
  let c0_i32_8 : BitVec 32 := 0#32
  ![v15.toNat, 0]
def k0_off10 (i : grid0.Coords) : Fin 3 → Nat :=
  let arg0 : BitVec 32 := BitVec.ofNat 32 (i 0).val
  let c3_i32 : BitVec 32 := 3#32
  let v0 : BitVec 32 := Scalar.remsi arg0 c3_i32
  let v21 : Index := Scalar.indexCast v0
  let c0 : Index := 0#32
  let c0_9 : Index := 0#32
  ![v21.toNat, 0, 0]
def k0_off11 (i : grid0.Coords) : Fin 3 → Nat :=
  let arg0 : BitVec 32 := BitVec.ofNat 32 (i 0).val
  let c4_i32 : BitVec 32 := 4#32
  let v1 : BitVec 32 := Scalar.remsi arg0 c4_i32
  let v65 : Index := Scalar.indexCast v1
  let c0_23 : Index := 0#32
  let c0_24 : Index := 0#32
  ![v65.toNat, 0, 0]
def k0_off12 (i : grid0.Coords) : Fin 1 → Nat :=
  let arg0 : BitVec 32 := BitVec.ofNat 32 (i 0).val
  let c4_i32 : BitVec 32 := 4#32
  let v1 : BitVec 32 := Scalar.remsi arg0 c4_i32
  ![v1.toNat]
def k0_off13 (i : grid0.Coords) : Fin 3 → Nat :=
  let arg0 : BitVec 32 := BitVec.ofNat 32 (i 0).val
  let c4_i32 : BitVec 32 := 4#32
  let v1 : BitVec 32 := Scalar.remsi arg0 c4_i32
  let c0_i32_27 : BitVec 32 := 0#32
  let c0_i32_28 : BitVec 32 := 0#32
  ![v1.toNat, 0, 0]
def k0_cond5 (i : grid0.Coords) : BitVec 1 :=
  let arg0 : BitVec 32 := BitVec.ofNat 32 (i 0).val
  let c15_i32 : BitVec 32 := 15#32
  let v75 : BitVec 1 := Scalar.cmpi .eq arg0 c15_i32
  let v76 : BitVec 32 := Scalar.extui v75
  let c0_i32_29 : BitVec 32 := 0#32
  let v77 : BitVec 1 := Scalar.cmpi .ne v76 c0_i32_29
  v77

def k0_off14 (i : grid0.Coords) (c3_i32_31 : BitVec 32) : Fin 1 → Nat :=
  let arg0 : BitVec 32 := BitVec.ofNat 32 (i 0).val
  let v79 : BitVec 32 := Scalar.subi arg0 c3_i32_31
  let c4_i32_32 : BitVec 32 := 4#32
  let v80 : BitVec 32 := Scalar.remsi v79 c4_i32_32
  ![v80.toNat]
def k0_off15 (i : grid0.Coords) (c3_i32_30 : BitVec 32) : Fin 2 → Nat :=
  let arg0 : BitVec 32 := BitVec.ofNat 32 (i 0).val
  let v78 : BitVec 32 := Scalar.subi arg0 c3_i32_30
  let c2048_i32_33 : BitVec 32 := 2048#32
  let v81 : BitVec 32 := Scalar.muli v78 c2048_i32_33
  let c0_i32_34 : BitVec 32 := 0#32
  ![v81.toNat, 0]
def k0_off16 (i : grid0.Coords) (c3_i32_31 : BitVec 32) : Fin 3 → Nat :=
  let arg0 : BitVec 32 := BitVec.ofNat 32 (i 0).val
  let v79 : BitVec 32 := Scalar.subi arg0 c3_i32_31
  let c4_i32_32 : BitVec 32 := 4#32
  let v80 : BitVec 32 := Scalar.remsi v79 c4_i32_32
  let c0_i32_35 : BitVec 32 := 0#32
  let c0_i32_36 : BitVec 32 := 0#32
  ![v80.toNat, 0, 0]
def k0_off17 (i : grid0.Coords) : Fin 1 → Nat :=
  let arg0 : BitVec 32 := BitVec.ofNat 32 (i 0).val
  let c4_i32 : BitVec 32 := 4#32
  let v1 : BitVec 32 := Scalar.remsi arg0 c4_i32
  ![v1.toNat]
def k0_off18 (i : grid0.Coords) : Fin 2 → Nat :=
  let arg0 : BitVec 32 := BitVec.ofNat 32 (i 0).val
  let c2048_i32_50 : BitVec 32 := 2048#32
  let v105 : BitVec 32 := Scalar.muli arg0 c2048_i32_50
  let c0_i32_51 : BitVec 32 := 0#32
  ![v105.toNat, 0]
def k0_off19 (i : grid0.Coords) : Fin 3 → Nat :=
  let arg0 : BitVec 32 := BitVec.ofNat 32 (i 0).val
  let c4_i32 : BitVec 32 := 4#32
  let v1 : BitVec 32 := Scalar.remsi arg0 c4_i32
  let c0_i32_52 : BitVec 32 := 0#32
  let c0_i32_53 : BitVec 32 := 0#32
  ![v1.toNat, 0, 0]
-- ==== KernelIdeal.lean ====
variable {F : FTy → Type} [FloatOps F] [Named F]
def κ : String → Option EReal := fun
  | "eps_sq" => some ((5316911940649 / 5316911983139663491615228241121378304 : ℝ) : EReal)
  | "inv_temperature" => some ((33554432 / 11744051 : ℝ) : EReal)
  | _ => none
-- ==== ReferenceIdeal.lean ====
abbrev S4x8192x1024 : Shape := ⟨3, ![4, 8192, 1024]⟩
abbrev S32x1024 : Shape := ⟨2, ![32, 1024]⟩
abbrev S32 : Shape := ⟨1, ![32]⟩
abbrev S_ : Shape := ⟨0, ![]⟩
abbrev S32x1 : Shape := ⟨2, ![32, 1]⟩
abbrev S4x8192 : Shape := ⟨2, ![4, 8192]⟩
abbrev S4x8192x1 : Shape := ⟨3, ![4, 8192, 1]⟩
abbrev S4x8192x32 : Shape := ⟨3, ![4, 8192, 32]⟩

abbrev nBuf : Space → Nat
  | .hbm => 49
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S32x1024, .f32⟩
  | .hbm, ⟨2, _⟩ => ⟨S32, .f32⟩
  | .hbm, ⟨3, _⟩ => ⟨S32x1024, .f32⟩
  | .hbm, ⟨4, _⟩ => ⟨S_, .f32⟩
  | .hbm, ⟨5, _⟩ => ⟨S32, .f32⟩
  | .hbm, ⟨6, _⟩ => ⟨S32x1, .f32⟩
  | .hbm, ⟨7, _⟩ => ⟨S32x1, .f32⟩
  | .hbm, ⟨8, _⟩ => ⟨S_, .f32⟩
  | .hbm, ⟨9, _⟩ => ⟨S32x1, .f32⟩
  | .hbm, ⟨10, _⟩ => ⟨S32x1, .f32⟩
  | .hbm, ⟨11, _⟩ => ⟨S32x1024, .f32⟩
  | .hbm, ⟨12, _⟩ => ⟨S32x1024, .f32⟩
  | .hbm, ⟨13, _⟩ => ⟨S4x8192x1024, .f32⟩
  | .hbm, ⟨14, _⟩ => ⟨S_, .f32⟩
  | .hbm, ⟨15, _⟩ => ⟨S4x8192, .f32⟩
  | .hbm, ⟨16, _⟩ => ⟨S4x8192x1, .f32⟩
  | .hbm, ⟨17, _⟩ => ⟨S4x8192x1, .f32⟩
  | .hbm, ⟨18, _⟩ => ⟨S_, .f32⟩
  | .hbm, ⟨19, _⟩ => ⟨S4x8192x1, .f32⟩
  | .hbm, ⟨20, _⟩ => ⟨S4x8192x1, .f32⟩
  | .hbm, ⟨21, _⟩ => ⟨S4x8192x1024, .f32⟩
  | .hbm, ⟨22, _⟩ => ⟨S4x8192x1024, .f32⟩
  | .hbm, ⟨23, _⟩ => ⟨S4x8192x32, .f32⟩
  | .hbm, ⟨24, _⟩ => ⟨S_, .f32⟩
  | .hbm, ⟨25, _⟩ => ⟨S4x8192x32, .f32⟩
  | .hbm, ⟨26, _⟩ => ⟨S4x8192x32, .f32⟩
  | .hbm, ⟨27, _⟩ => ⟨S_, .f32⟩
  | .hbm, ⟨28, _⟩ => ⟨S4x8192, .f32⟩
  | .hbm, ⟨29, _⟩ => ⟨S_, .f32⟩
  | .hbm, ⟨30, _⟩ => ⟨S4x8192, .f32⟩
  | .hbm, ⟨31, _⟩ => ⟨S4x8192, .f32⟩
  | .hbm, ⟨32, _⟩ => ⟨S4x8192x1, .f32⟩
  | .hbm, ⟨33, _⟩ => ⟨S4x8192x32, .f32⟩
  | .hbm, ⟨34, _⟩ => ⟨S4x8192x32, .f32⟩
  | .hbm, ⟨35, _⟩ => ⟨S4x8192x32, .f32⟩
  | .hbm, ⟨36, _⟩ => ⟨S_, .f32⟩
  | .hbm, ⟨37, _⟩ => ⟨S4x8192, .f32⟩
  | .hbm, ⟨38, _⟩ => ⟨S4x8192x1, .f32⟩
  | .hbm, ⟨39, _⟩ => ⟨S4x8192x32, .f32⟩
  | .hbm, ⟨40, _⟩ => ⟨S4x8192x32, .f32⟩
  | .hbm, ⟨41, _⟩ => ⟨S4x8192x1024, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .i1⟩
  | .hbm, ⟨46, _⟩ => ⟨S_, .f32⟩
  | .hbm, ⟨47, _⟩ => ⟨S4x8192x1024, .f32⟩
  | .hbm, ⟨48, _⟩ => ⟨S4x8192x1024, .f32⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_cst : Ref sig .tc := ⟨.hbm, 4, rfl⟩
abbrev main_call0_v1 : Ref sig .tc := ⟨.hbm, 5, rfl⟩
abbrev main_call0_v2 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_call1_v0 : Ref sig .tc := ⟨.hbm, 13, rfl⟩
abbrev main_call1_cst : Ref sig .tc := ⟨.hbm, 14, rfl⟩
abbrev main_call1_v1 : Ref sig .tc := ⟨.hbm, 15, rfl⟩
abbrev main_call1_v2 : Ref sig .tc := ⟨.hbm, 16, rfl⟩
abbrev main_v5 : Ref sig .tc := ⟨.hbm, 17, rfl⟩
abbrev main_cst_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_1 : Ref sig .tc := ⟨.hbm, 24, rfl⟩
abbrev main_v11 : Ref sig .tc := ⟨.hbm, 25, rfl⟩
abbrev main_v12 : Ref sig .tc := ⟨.hbm, 26, rfl⟩
abbrev main_cst_2 : Ref sig .tc := ⟨.hbm, 27, rfl⟩
abbrev main_v13 : Ref sig .tc := ⟨.hbm, 28, rfl⟩
abbrev main_cst_3 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_cst_4 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_cst_5 : Ref sig .tc := ⟨.hbm, 42, rfl⟩
abbrev main_v25 : Ref sig .tc := ⟨.hbm, 43, rfl⟩
abbrev main_cst_6 : Ref sig .tc := ⟨.hbm, 44, rfl⟩
abbrev main_v26 : Ref sig .tc := ⟨.hbm, 45, rfl⟩
abbrev main_cst_7 : Ref sig .tc := ⟨.hbm, 46, rfl⟩
abbrev main_v27 : Ref sig .tc := ⟨.hbm, 47, rfl⟩
abbrev main_v28 : Ref sig .tc := ⟨.hbm, 48, rfl⟩

abbrev nD : Nat := 1
abbrev τ : Topo := Topo.v7x

variable {F : FTy → Type} [FloatOps F]
-- ==== Proof.KernelIdealNames.lean ====
/- The names the kernel's transfers are read by: the slots, blocks and semaphore cells of its two rings, and the
   equations that say which of them the body addresses at grid point `t`. -/
module

public import proofs.«01_k».proof.Proof.Gen.KernelIdeal.Skeleton
public import proofs.«01_k».proof.Proof.Gen.KernelIdeal.Frame
public import Idealize.ShloMosaic.Lib.Ring
public import Idealize.ShloMosaic.Lib.Ring.AtN
public import Idealize.ShloMosaic.Lib.Ring.WriteBehind
public import Idealize.ShloMosaic.Lib.Tactic
public import Idealize.ShloMosaic.Lib.WordCmp

@[expose] public section

set_option maxRecDepth 16384

noncomputable section

namespace Cert.KernelIdeal.Hand

open Idealize.ShloMosaic Idealize.ShloMosaic.TcCoe Idealize.ShloMosaic.Tactic
open Idealize.SL Idealize.SL.Sem
open Cert.KernelIdeal Cert.KernelIdeal.Gen

/-! ## Slots, blocks, cells -/

abbrev inM : Memref sig .tc .vmem S3x2048x1024 .f32 := Memref.whole cc0_scratch0
abbrev outM : Memref sig .tc .vmem S4x2048x1024 .f32 := Memref.whole cc0_scratch1
abbrev xM : Memref sig .tc .hbm S32768x1024 .f32 := Memref.whole main_v0
abbrev yM : Memref sig .tc .hbm S32768x1024 .f32 := Memref.whole main_v2
abbrev slotsM : Memref sig .tc .hbm S32x1024 .f32 := Memref.whole main_arg1
abbrev usageM : Memref sig .tc .hbm S1x32 .f32 := Memref.whole main_v1
abbrev slotsV : Memref sig .tc .vmem S32x1024 .f32 := Memref.whole cc0_scratch2
abbrev usageV : Memref sig .tc .vmem S1x32 .f32 := Memref.whole cc0_scratch3

theorem inb_in (s : Fin 3) : ∀ a, (![s.val, 0, 0] : Fin 3 → Nat) a + S1x2048x1024.size a ≤ S3x2048x1024.size a := by
  revert s; decide +kernel
theorem inb_out (s : Fin 4) : ∀ a, (![s.val, 0, 0] : Fin 3 → Nat) a + S1x2048x1024.size a ≤ S4x2048x1024.size a := by
  revert s; decide +kernel
theorem inb_blk (b : Fin 16) : ∀ a, (![2048 * b.val, 0] : Fin 2 → Nat) a + S2048x1024.size a ≤ S32768x1024.size a := by
  revert b; decide +kernel
theorem inb_c3 (s : Fin 3) : ∀ a, (![s.val] : Fin 1 → Nat) a + S1.size a ≤ S3.size a := by
  revert s; decide +kernel
theorem inb_c4 (s : Fin 4) : ∀ a, (![s.val] : Fin 1 → Nat) a + S1.size a ≤ S4.size a := by
  revert s; decide +kernel

/-- Slot `s` of the input ring: one chunk of rows in VMEM. -/
def inSlot (s : Fin 3) : Memref sig .tc .vmem S2048x1024 .f32 :=
  (inM.slice (Rect.unit (s := S3x2048x1024) ![s.val, 0, 0] S1x2048x1024.size (inb_in s)) (fun _ => rfl)).squeeze S2048x1024 squeezes_S1x2048x1024_S2048x1024
/-- Slot `s` of the output ring. -/
def outSlot (s : Fin 4) : Memref sig .tc .vmem S2048x1024 .f32 :=
  (outM.slice (Rect.unit (s := S4x2048x1024) ![s.val, 0, 0] S1x2048x1024.size (inb_out s)) (fun _ => rfl)).squeeze S2048x1024 squeezes_S1x2048x1024_S2048x1024
/-- Chunk `b` of the rows the kernel reads. -/
def xBlk (b : Fin 16) : Memref sig .tc .hbm S2048x1024 .f32 :=
  xM.slice (Rect.unit (s := S32768x1024) ![2048 * b.val, 0] S2048x1024.size (inb_blk b)) (fun _ => rfl)
/-- Chunk `b` of the rows the kernel writes. -/
def yBlk (b : Fin 16) : Memref sig .tc .hbm S2048x1024 .f32 :=
  yM.slice (Rect.unit (s := S32768x1024) ![2048 * b.val, 0] S2048x1024.size (inb_blk b)) (fun _ => rfl)
/-- The semaphore of input slot `s`. -/
def inCell (s : Fin 3) : DmaSems sig S_ :=
  (cc0_scratch4.slice (Rect.unit (s := S3) ![s.val] S1.size (inb_c3 s))).squeeze S_ squeezes_S1_S_
/-- The semaphore of output slot `s`. -/
def outCell (s : Fin 4) : DmaSems sig S_ :=
  (cc0_scratch5.slice (Rect.unit (s := S4) ![s.val] S1.size (inb_c4 s))).squeeze S_ squeezes_S1_S_

theorem inSlot_of {off : Fin 3 → Nat} {s : Fin 3} (e : off = ![s.val, 0, 0]) (hh hs) :
    (inM.slice (Rect.unit (s := S3x2048x1024) off S1x2048x1024.size hh) hs).squeeze S2048x1024 squeezes_S1x2048x1024_S2048x1024 = inSlot s :=
  congrArg (fun M : Memref sig .tc .vmem S1x2048x1024 .f32 => M.squeeze S2048x1024 squeezes_S1x2048x1024_S2048x1024) (Memref.slice_unit_congr _ e _ _ _ _)
theorem outSlot_of {off : Fin 3 → Nat} {s : Fin 4} (e : off = ![s.val, 0, 0]) (hh hs) :
    (outM.slice (Rect.unit (s := S4x2048x1024) off S1x2048x1024.size hh) hs).squeeze S2048x1024 squeezes_S1x2048x1024_S2048x1024 = outSlot s :=
  congrArg (fun M : Memref sig .tc .vmem S1x2048x1024 .f32 => M.squeeze S2048x1024 squeezes_S1x2048x1024_S2048x1024) (Memref.slice_unit_congr _ e _ _ _ _)
theorem xBlk_of {off : Fin 2 → Nat} {b : Fin 16} (e : off = ![2048 * b.val, 0]) (hh hs) :
    xM.slice (Rect.unit (s := S32768x1024) off S2048x1024.size hh) hs = xBlk b :=
  Memref.slice_unit_congr _ e _ _ hs (fun _ => rfl)
theorem yBlk_of {off : Fin 2 → Nat} {b : Fin 16} (e : off = ![2048 * b.val, 0]) (hh hs) :
    yM.slice (Rect.unit (s := S32768x1024) off S2048x1024.size hh) hs = yBlk b :=
  Memref.slice_unit_congr _ e _ _ hs (fun _ => rfl)
theorem inCell_of {off : Fin 1 → Nat} {s : Fin 3} (e : off = ![s.val]) (hh) :
    (cc0_scratch4.slice (Rect.unit (s := S3) off S1.size hh)).squeeze S_ squeezes_S1_S_ = inCell s :=
  congrArg (fun A : DmaSems sig S1 => A.squeeze S_ squeezes_S1_S_) (SemArray.slice_unit_congr _ e _ _)
theorem outCell_of {off : Fin 1 → Nat} {s : Fin 4} (e : off = ![s.val]) (hh) :
    (cc0_scratch5.slice (Rect.unit (s := S4) off S1.size hh)).squeeze S_ squeezes_S1_S_ = outCell s :=
  congrArg (fun A : DmaSems sig S1 => A.squeeze S_ squeezes_S1_S_) (SemArray.slice_unit_congr _ e _ _)

/-! ## What the body addresses at point `t` -/

theorem o1 : ∀ t : Fin grid0.N, k0_off1 (grid0.coords t) = ![(Ring.sl 3 (t.val + 2)).val] := by decide +kernel
theorem o2 : ∀ t : Fin grid0.N, k0_off2 (grid0.coords t) = ![(Ring.sl 3 (t.val + 2)).val, 0, 0] := by decide +kernel
theorem o3 : ∀ t : Fin grid0.N, t.val + 2 < 16 → k0_off3 (grid0.coords t) = ![2048 * (Ring.bk 16 (t.val + 2)).val, 0] := by decide +kernel
theorem o4 : ∀ t : Fin grid0.N, k0_off4 (grid0.coords t) = ![(Ring.sl 4 t.val).val] := by decide +kernel
theorem o5 : ∀ t : Fin grid0.N, 4 ≤ t.val → k0_off5 (grid0.coords t) = ![2048 * (Ring.bk 16 (t.val - 4)).val, 0] := by decide +kernel
theorem o6 : ∀ t : Fin grid0.N, k0_off6 (grid0.coords t) = ![(Ring.sl 4 t.val).val, 0, 0] := by decide +kernel
theorem o7 : ∀ t : Fin grid0.N, k0_off7 (grid0.coords t) = ![(Ring.sl 3 t.val).val] := by decide +kernel
theorem o8 : ∀ t : Fin grid0.N, k0_off8 (grid0.coords t) = ![(Ring.sl 3 t.val).val, 0, 0] := by decide +kernel
theorem o9 : ∀ t : Fin grid0.N, k0_off9 (grid0.coords t) = ![2048 * (Ring.bk 16 t.val).val, 0] := by decide +kernel
theorem o10 : ∀ t : Fin grid0.N, k0_off10 (grid0.coords t) = ![(Ring.sl 3 t.val).val, 0, 0] := by decide +kernel
theorem o11 : ∀ t : Fin grid0.N, k0_off11 (grid0.coords t) = ![(Ring.sl 4 t.val).val, 0, 0] := by decide +kernel
theorem o12 : ∀ t : Fin grid0.N, k0_off12 (grid0.coords t) = ![(Ring.sl 4 t.val).val] := by decide +kernel
theorem o13 : ∀ t : Fin grid0.N, k0_off13 (grid0.coords t) = ![(Ring.sl 4 t.val).val, 0, 0] := by decide +kernel
theorem o17 : ∀ t : Fin grid0.N, k0_off17 (grid0.coords t) = ![(Ring.sl 4 t.val).val] := by decide +kernel
theorem o18 : ∀ t : Fin grid0.N, k0_off18 (grid0.coords t) = ![2048 * (Ring.bk 16 t.val).val, 0] := by decide +kernel
theorem o19 : ∀ t : Fin grid0.N, k0_off19 (grid0.coords t) = ![(Ring.sl 4 t.val).val, 0, 0] := by decide +kernel
theorem o14_3 : ∀ t : Fin grid0.N, t.val = 15 → k0_off14 (grid0.coords t) 3#32 = ![(Ring.sl 4 (t.val + 1)).val] := by decide +kernel
theorem o14_2 : ∀ t : Fin grid0.N, t.val = 15 → k0_off14 (grid0.coords t) 2#32 = ![(Ring.sl 4 (t.val + 2)).val] := by decide +kernel
theorem o14_1 : ∀ t : Fin grid0.N, t.val = 15 → k0_off14 (grid0.coords t) 1#32 = ![(Ring.sl 4 (t.val + 3)).val] := by decide +kernel
theorem o15_3 : ∀ t : Fin grid0.N, t.val = 15 → k0_off15 (grid0.coords t) 3#32 = ![2048 * (Ring.bk 16 (t.val - 3)).val, 0] := by decide +kernel
theorem o15_2 : ∀ t : Fin grid0.N, t.val = 15 → k0_off15 (grid0.coords t) 2#32 = ![2048 * (Ring.bk 16 (t.val - 2)).val, 0] := by decide +kernel
theorem o15_1 : ∀ t : Fin grid0.N, t.val = 15 → k0_off15 (grid0.coords t) 1#32 = ![2048 * (Ring.bk 16 (t.val - 1)).val, 0] := by decide +kernel
theorem o16_3 : ∀ t : Fin grid0.N, t.val = 15 → k0_off16 (grid0.coords t) 3#32 = ![(Ring.sl 4 (t.val + 1)).val, 0, 0] := by decide +kernel
theorem o16_2 : ∀ t : Fin grid0.N, t.val = 15 → k0_off16 (grid0.coords t) 2#32 = ![(Ring.sl 4 (t.val + 2)).val, 0, 0] := by decide +kernel
theorem o16_1 : ∀ t : Fin grid0.N, t.val = 15 → k0_off16 (grid0.coords t) 1#32 = ![(Ring.sl 4 (t.val + 3)).val, 0, 0] := by decide +kernel

section Canon
variable (t : Fin grid0.N)

@[sl_canon] theorem c1 (hh) : (cc0_scratch4.slice (Rect.unit (s := S3) (k0_off1 (grid0.coords t)) S1.size hh)).squeeze S_ squeezes_S1_S_ = inCell (Ring.sl 3 (t.val + 2)) := inCell_of (o1 t) _
@[sl_canon] theorem c2 (hh hs) : (inM.slice (Rect.unit (s := S3x2048x1024) (k0_off2 (grid0.coords t)) S1x2048x1024.size hh) hs).squeeze S2048x1024 squeezes_S1x2048x1024_S2048x1024 = inSlot (Ring.sl 3 (t.val + 2)) := inSlot_of (o2 t) _ _
@[sl_canon] theorem c3 (h : t.val + 2 < 16) (hh hs) : xM.slice (Rect.unit (s := S32768x1024) (k0_off3 (grid0.coords t)) S2048x1024.size hh) hs = xBlk (Ring.bk 16 (t.val + 2)) := xBlk_of (o3 t h) _ _
@[sl_canon] theorem c4 (hh) : (cc0_scratch5.slice (Rect.unit (s := S4) (k0_off4 (grid0.coords t)) S1.size hh)).squeeze S_ squeezes_S1_S_ = outCell (Ring.sl 4 t.val) := outCell_of (o4 t) _
@[sl_canon] theorem c5 (h : 4 ≤ t.val) (hh hs) : yM.slice (Rect.unit (s := S32768x1024) (k0_off5 (grid0.coords t)) S2048x1024.size hh) hs = yBlk (Ring.bk 16 (t.val - 4)) := yBlk_of (o5 t h) _ _
@[sl_canon] theorem c6 (hh hs) : (outM.slice (Rect.unit (s := S4x2048x1024) (k0_off6 (grid0.coords t)) S1x2048x1024.size hh) hs).squeeze S2048x1024 squeezes_S1x2048x1024_S2048x1024 = outSlot (Ring.sl 4 t.val) := outSlot_of (o6 t) _ _
@[sl_canon] theorem c7 (hh) : (cc0_scratch4.slice (Rect.unit (s := S3) (k0_off7 (grid0.coords t)) S1.size hh)).squeeze S_ squeezes_S1_S_ = inCell (Ring.sl 3 t.val) := inCell_of (o7 t) _
@[sl_canon] theorem c8 (hh hs) : (inM.slice (Rect.unit (s := S3x2048x1024) (k0_off8 (grid0.coords t)) S1x2048x1024.size hh) hs).squeeze S2048x1024 squeezes_S1x2048x1024_S2048x1024 = inSlot (Ring.sl 3 t.val) := inSlot_of (o8 t) _ _
@[sl_canon] theorem c9x (hh hs) : xM.slice (Rect.unit (s := S32768x1024) (k0_off9 (grid0.coords t)) S2048x1024.size hh) hs = xBlk (Ring.bk 16 t.val) := xBlk_of (o9 t) _ _
@[sl_canon] theorem c9y (hh hs) : yM.slice (Rect.unit (s := S32768x1024) (k0_off9 (grid0.coords t)) S2048x1024.size hh) hs = yBlk (Ring.bk 16 t.val) := yBlk_of (o9 t) _ _
@[sl_canon] theorem c12 (hh) : (cc0_scratch5.slice (Rect.unit (s := S4) (k0_off12 (grid0.coords t)) S1.size hh)).squeeze S_ squeezes_S1_S_ = outCell (Ring.sl 4 t.val) := outCell_of (o12 t) _
@[sl_canon] theorem c13 (hh hs) : (outM.slice (Rect.unit (s := S4x2048x1024) (k0_off13 (grid0.coords t)) S1x2048x1024.size hh) hs).squeeze S2048x1024 squeezes_S1x2048x1024_S2048x1024 = outSlot (Ring.sl 4 t.val) := outSlot_of (o13 t) _ _
@[sl_canon] theorem c17 (hh) : (cc0_scratch5.slice (Rect.unit (s := S4) (k0_off17 (grid0.coords t)) S1.size hh)).squeeze S_ squeezes_S1_S_ = outCell (Ring.sl 4 t.val) := outCell_of (o17 t) _
@[sl_canon] theorem c18 (hh hs) : yM.slice (Rect.unit (s := S32768x1024) (k0_off18 (grid0.coords t)) S2048x1024.size hh) hs = yBlk (Ring.bk 16 t.val) := yBlk_of (o18 t) _ _
@[sl_canon] theorem c19 (hh hs) : (outM.slice (Rect.unit (s := S4x2048x1024) (k0_off19 (grid0.coords t)) S1x2048x1024.size hh) hs).squeeze S2048x1024 squeezes_S1x2048x1024_S2048x1024 = outSlot (Ring.sl 4 t.val) := outSlot_of (o19 t) _ _
@[sl_canon] theorem c14_3 (h : t.val = 15) (hh) : (cc0_scratch5.slice (Rect.unit (s := S4) (k0_off14 (grid0.coords t) 3#32) S1.size hh)).squeeze S_ squeezes_S1_S_ = outCell (Ring.sl 4 (t.val + 1)) := outCell_of (o14_3 t h) _
@[sl_canon] theorem c14_2 (h : t.val = 15) (hh) : (cc0_scratch5.slice (Rect.unit (s := S4) (k0_off14 (grid0.coords t) 2#32) S1.size hh)).squeeze S_ squeezes_S1_S_ = outCell (Ring.sl 4 (t.val + 2)) := outCell_of (o14_2 t h) _
@[sl_canon] theorem c14_1 (h : t.val = 15) (hh) : (cc0_scratch5.slice (Rect.unit (s := S4) (k0_off14 (grid0.coords t) 1#32) S1.size hh)).squeeze S_ squeezes_S1_S_ = outCell (Ring.sl 4 (t.val + 3)) := outCell_of (o14_1 t h) _
@[sl_canon] theorem c15_3 (h : t.val = 15) (hh hs) : yM.slice (Rect.unit (s := S32768x1024) (k0_off15 (grid0.coords t) 3#32) S2048x1024.size hh) hs = yBlk (Ring.bk 16 (t.val - 3)) := yBlk_of (o15_3 t h) _ _
@[sl_canon] theorem c15_2 (h : t.val = 15) (hh hs) : yM.slice (Rect.unit (s := S32768x1024) (k0_off15 (grid0.coords t) 2#32) S2048x1024.size hh) hs = yBlk (Ring.bk 16 (t.val - 2)) := yBlk_of (o15_2 t h) _ _
@[sl_canon] theorem c15_1 (h : t.val = 15) (hh hs) : yM.slice (Rect.unit (s := S32768x1024) (k0_off15 (grid0.coords t) 1#32) S2048x1024.size hh) hs = yBlk (Ring.bk 16 (t.val - 1)) := yBlk_of (o15_1 t h) _ _
@[sl_canon] theorem c16_3 (h : t.val = 15) (hh hs) : (outM.slice (Rect.unit (s := S4x2048x1024) (k0_off16 (grid0.coords t) 3#32) S1x2048x1024.size hh) hs).squeeze S2048x1024 squeezes_S1x2048x1024_S2048x1024 = outSlot (Ring.sl 4 (t.val + 1)) := outSlot_of (o16_3 t h) _ _
@[sl_canon] theorem c16_2 (h : t.val = 15) (hh hs) : (outM.slice (Rect.unit (s := S4x2048x1024) (k0_off16 (grid0.coords t) 2#32) S1x2048x1024.size hh) hs).squeeze S2048x1024 squeezes_S1x2048x1024_S2048x1024 = outSlot (Ring.sl 4 (t.val + 2)) := outSlot_of (o16_2 t h) _ _
@[sl_canon] theorem c16_1 (h : t.val = 15) (hh hs) : (outM.slice (Rect.unit (s := S4x2048x1024) (k0_off16 (grid0.coords t) 1#32) S1x2048x1024.size hh) hs).squeeze S2048x1024 squeezes_S1x2048x1024_S2048x1024 = outSlot (Ring.sl 4 (t.val + 3)) := outSlot_of (o16_1 t h) _ _

end Canon

/-- The first point's transfers spell the first two slots, blocks and cells by numerals. -/
@[sl_canon] theorem l_c0 (hh) : (cc0_scratch4.slice (Rect.unit (s := S3) ![0] S1.size hh)).squeeze S_ squeezes_S1_S_ = inCell 0 := inCell_of (s := 0) (by decide) _
@[sl_canon] theorem l_c1 (hh) : (cc0_scratch4.slice (Rect.unit (s := S3) ![1] S1.size hh)).squeeze S_ squeezes_S1_S_ = inCell 1 := inCell_of (s := 1) (by decide) _
@[sl_canon] theorem l_s0 (hh hs) : (inM.slice (Rect.unit (s := S3x2048x1024) ![0, 0, 0] S1x2048x1024.size hh) hs).squeeze S2048x1024 squeezes_S1x2048x1024_S2048x1024 = inSlot 0 := inSlot_of (s := 0) (by decide) _ _
@[sl_canon] theorem l_s1 (hh hs) : (inM.slice (Rect.unit (s := S3x2048x1024) ![1, 0, 0] S1x2048x1024.size hh) hs).squeeze S2048x1024 squeezes_S1x2048x1024_S2048x1024 = inSlot 1 := inSlot_of (s := 1) (by decide) _ _
@[sl_canon] theorem l_x0 (hh hs) : xM.slice (Rect.unit (s := S32768x1024) ![0, 0] S2048x1024.size hh) hs = xBlk 0 := xBlk_of (b := 0) (by decide) _ _
@[sl_canon] theorem l_x1 (hh hs) : xM.slice (Rect.unit (s := S32768x1024) ![2048, 0] S2048x1024.size hh) hs = xBlk 1 := xBlk_of (b := 1) (by decide) _ _

/-- The box a point reads its chunk at, and the one it stores its result at, are the slots' own. -/
instance (priority := high) cl10 (t : Fin grid0.N) : ClosedOff (k0_off10 (grid0.coords t)) := ⟨![(Ring.sl 3 t.val).val, 0, 0], o10 t⟩
instance (priority := high) cl11 (t : Fin grid0.N) : ClosedOff (k0_off11 (grid0.coords t)) := ⟨![(Ring.sl 4 t.val).val, 0, 0], o11 t⟩

/-- The body's conditions over the point's number. -/
theorem cond1_iff : ∀ t : Fin grid0.N, (Scalar.cmpi .ne (Scalar.extui (Scalar.cmpi .eq (BitVec.ofNat 32 (grid0.coords t 0).val) 0#32) : BitVec 32) 0#32 = 1#1) ↔ t.val = 0 := by decide +kernel
theorem cond2_iff : ∀ t : Fin grid0.N, k0_cond2 (grid0.coords t) = 1#1 ↔ t.val + 2 < 16 := by decide +kernel
theorem cond3_iff : ∀ t : Fin grid0.N, k0_cond3 (grid0.coords t) = 1#1 ↔ 4 ≤ t.val := by decide +kernel
theorem cond5_iff : ∀ t : Fin grid0.N, k0_cond5 (grid0.coords t) = 1#1 ↔ t.val = 15 := by decide +kernel

end Cert.KernelIdeal.Hand

end
-- ==== Proof.KernelIdealBody.lean ====
/- The kernel's body at each grid point, run on what its two rings hold there. -/
module

public import proofs.«01_k».proof.Proof.KernelIdealNames
public import Idealize.ShloMosaic.Lib.Pipeline.FrameSuffixV
public import Idealize.ShloMosaic.Lib.VecWindow

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (Pipeline.UD sig nD τ) ℕ

section Families
variable (c : Dev nD) (W : Buf (Elt F) (xM.view.loc (c : Thread nD τ)))

/-- The semaphores of the two rings as locations. -/
abbrev inSem (s : Fin 3) : SemLoc sig := SemLoc.dma (inCell s).sem
abbrev outSem (s : Fin 4) : SemLoc sig := SemLoc.dma (outCell s).sem
/-- Input slot `s` held at `f`; its semaphore at zero; chunk `b` of the input held at the input. -/
abbrev inP (s : Fin 3) (f : Buf (Elt F) ((inSlot s).view.loc (c : Thread nD τ))) : sProp 𝕄 :=
  (inSlot s).view.loc (c : Thread nD τ) ↦[(inSlot s).view.set]{fullShare} f
abbrev inC (s : Fin 3) : sProp 𝕄 := semVal ((c : Thread nD τ), inSem s) 0
abbrev xP (b : Fin 16) : sProp 𝕄 := (xBlk b).view.loc (c : Thread nD τ) ↦[(xBlk b).view.set]{fullShare} W
/-- What input slot `s` holds once chunk `b` has landed over `f`. -/
abbrev inL (s : Fin 3) (b : Fin 16) (f : Buf (Elt F) ((inSlot s).view.loc (c : Thread nD τ))) :
    Buf (Elt F) ((inSlot s).view.loc (c : Thread nD τ)) :=
  (inSlot s).view.writes (Elt F) f [⟨Rect.whole S2048x1024, ReadAs.same.apply ((xBlk b).view.read (Elt F) W)⟩]
/-- Chunk `b` in flight into input slot `s`. -/
abbrev inF (s : Fin 3) (b : Fin 16) (f : Buf (Elt F) ((inSlot s).view.loc (c : Thread nD τ))) : sProp 𝕄 :=
  Transfers.Flight countersEmb (c : Thread nD τ) (inSem s) () ((inSlot s).view.amount (inSem s))
    iprop(inP c s (inL c W s b f) ∗ xP c W b)
/-- Output slot `s` held at `f`; its semaphore at zero; chunk `b` of the result held at `g`. -/
abbrev outP (s : Fin 4) (f : Buf (Elt F) ((outSlot s).view.loc (c : Thread nD τ))) : sProp 𝕄 :=
  (outSlot s).view.loc (c : Thread nD τ) ↦[(outSlot s).view.set]{fullShare} f
abbrev outC (s : Fin 4) : sProp 𝕄 := semVal ((c : Thread nD τ), outSem s) 0
abbrev yP (b : Fin 16) (g : Buf (Elt F) ((yBlk b).view.loc (c : Thread nD τ))) : sProp 𝕄 :=
  (yBlk b).view.loc (c : Thread nD τ) ↦[(yBlk b).view.set]{fullShare} g
/-- Output slot `s` in flight into chunk `b` of the result, delivering `g`. -/
abbrev outF (s : Fin 4) (b : Fin 16) (g : Buf (Elt F) ((yBlk b).view.loc (c : Thread nD τ)))
    (f : Buf (Elt F) ((outSlot s).view.loc (c : Thread nD τ))) : sProp 𝕄 :=
  Transfers.Flight countersEmb (c : Thread nD τ) (outSem s) () ((yBlk b).view.amount (outSem s))
    iprop(yP c b g ∗ outP c s f)

end Families

/-! ## What the body reads and writes -/

/-- A load of a whole input slot, its unit axis dropped, is what the slot reads. -/
theorem read_inSlot {off : Fin 3 → Nat} {s : Fin 3} (e : off = ![s.val, 0, 0]) (hh)
    (f : (inSlot s).view.ty.Contents (Elt F)) :
    shapeCast S2048x1024 (inM.view.readAt (Elt F) (Rect.unit (s := S3x2048x1024) off S1x2048x1024.size hh).toLoadRect f)
      shapeCasts_S1x2048x1024_S2048x1024 = (inSlot s).view.read (Elt F) f := by
  subst e; rfl

/-- What a squeezed slice of a memref reads after a store through its whole box: the value stored, in its shape. -/
theorem read_squeeze_write {κ : Kind} {sp : Space} {s s' : Shape} {e : EltTy} {Val : EltTy → Type} (M : Memref sig κ sp s e) (r : Rect s)
    (hr : ∀ a, r.stride a = 1) (hq : r.shape.Squeezes s') (hc : r.shape.ShapeCasts s') (f : M.view.ty.Contents Val) (w : r.shape.Idx → Val e) :
    ((M.slice r hr).squeeze s' hq).view.read Val (View.write Val (M.access r) f w Finset.univ) = shapeCast s' w hc := by
  have h : View.read Val (M.access r) (View.write Val (M.access r) f w Finset.univ) = w := View.read_write_univ (v := M.access r) f w
  exact congrArg (fun z => shapeCast s' z hc) h

/-- What an output slot reads after a store through its whole box: the value stored, its unit axis dropped. -/
theorem read_outSlot {off : Fin 3 → Nat} {s : Fin 4} (e : off = ![s.val, 0, 0]) (hh)
    (f : (outSlot s).view.ty.Contents (Elt F)) (w : S1x2048x1024.Idx → Elt F .f32) :
    (outSlot s).view.read (Elt F) (View.write (Elt F) (outM.access (Rect.unit (s := S4x2048x1024) off S1x2048x1024.size hh)) f w Finset.univ)
      = shapeCast S2048x1024 w shapeCasts_S1x2048x1024_S2048x1024 := by
  subst e
  exact read_squeeze_write outM (Rect.unit (s := S4x2048x1024) ![s.val, 0, 0] S1x2048x1024.size hh) (fun _ => rfl)
    squeezes_S1x2048x1024_S2048x1024 shapeCasts_S1x2048x1024_S2048x1024 f w

/-- The chunk of the result that the body makes of a chunk `x` of rows, the slots `sl` and their usage `us`. -/
def outBlock (x : FVec F S2048x1024 .f32) (sl : Vec F S32x1024 .f32) (us : Vec F S1x32 .f32) : FVec F S2048x1024 .f32 :=
  shapeCast S2048x1024 (k0_pay3 x sl us (k0_pay2 sl)) shapeCasts_S1x2048x1024_S2048x1024

section State
variable (c : Dev nD) (W : Buf (Elt F) (xM.view.loc (c : Thread nD τ)))
  (A1 : Buf (Elt F) (slotsM.view.loc (c : Thread nD τ))) (B1 : Buf (Elt F) (usageM.view.loc (c : Thread nD τ)))

/-- Chunk `b` of the result, of the three arrays the kernel is given. -/
def res (b : Fin 16) : FVec F S2048x1024 .f32 :=
  outBlock ((xBlk b).view.read (Elt F) W) (slotsM.view.read (Elt F) A1) (usageM.view.read (Elt F) B1)

/-- An input slot with a chunk in flight into it; a free one. -/
abbrev inI (s : Fin 3) (b : Fin 16) : sProp 𝕄 := Ring.inflight (fun s b f => inF c W s b f) s b
abbrev inFree (s : Fin 3) : sProp 𝕄 := Ring.free (inC c) (fun s f => inP c s f) s
/-- A free output slot; one on its way to its chunk of the result; a chunk not yet written; a chunk written. -/
def outFree (s : Fin 4) : sProp 𝕄 := iprop(outC c s ∗ ∃ f, outP c s f)
def outI (s : Fin 4) (b : Fin 16) : sProp 𝕄 :=
  iprop(∃ g f, outF c s b g f ∗ ⌜(yBlk b).view.read (Elt F) g = res c W A1 B1 b⌝)
def yAhead (b : Fin 16) : sProp 𝕄 := iprop(∃ g, yP c b g)
def yDone (b : Fin 16) : sProp 𝕄 := iprop(∃ g, yP c b g ∗ ⌜(yBlk b).view.read (Elt F) g = res c W A1 B1 b⌝)

/-- The copies of the slots and of their usage in VMEM, once they have landed. -/
def heldS : sProp 𝕄 := iprop(∃ f, (slotsV.view.loc (c : Thread nD τ) ↦{fullShare} f)
  ∗ ⌜slotsV.view.readAt (Elt F) (Rect.unit ![0, 0] S32x1024.size inb_S32x1024_S32x1024_0_0).toLoadRect f = slotsM.view.read (Elt F) A1⌝)
def heldU : sProp 𝕄 := iprop(∃ f, (usageV.view.loc (c : Thread nD τ) ↦{fullShare} f)
  ∗ ⌜usageV.view.readAt (Elt F) (Rect.unit ![0, 0] S1x32.size inb_S1x32_S1x32_0_0).toLoadRect f = usageM.view.read (Elt F) B1⌝)

end State

section Points
variable (c : Dev nD) (W : Buf (Elt F) (xM.view.loc (c : Thread nD τ)))
  (A1 : Buf (Elt F) (slotsM.view.loc (c : Thread nD τ))) (B1 : Buf (Elt F) (usageM.view.loc (c : Thread nD τ)))
  (t : Fin cfg0.N) (W0 : Waits sig Unit)

/-- What a point stores and sends reads, on its chunk of the result, as that chunk. -/
theorem sent {offi offo : Fin 3 → Nat} {s : Fin 3} {s' : Fin 4} (b : Fin 16) (ei : offi = ![s.val, 0, 0]) (eo : offo = ![s'.val, 0, 0]) (hi ho)
    (g : (yBlk b).view.ty.Contents (Elt F)) (f f4) (SL : Vec F S32x1024 .f32) (US : Vec F S1x32 .f32)
    (hS : SL = slotsM.view.read (Elt F) A1) (hU : US = usageM.view.read (Elt F) B1) :
    (yBlk b).view.read (Elt F) ((yBlk b).view.writes (Elt F) g [⟨Rect.whole S2048x1024, ReadAs.same.apply ((outSlot s').view.read (Elt F)
      (View.write (Elt F) (outM.access (Rect.unit (s := S4x2048x1024) offo S1x2048x1024.size ho)) f4
        (k0_pay3 (k0_pay1 (inM.view.readAt (Elt F) (Rect.unit (s := S3x2048x1024) offi S1x2048x1024.size hi).toLoadRect
          (inL c W s b f))) SL US (k0_pay2 SL)) Finset.univ))⟩])
      = res c W A1 B1 b := by
  subst hS hU
  have e : k0_pay1 (inM.view.readAt (Elt F) (Rect.unit (s := S3x2048x1024) offi S1x2048x1024.size hi).toLoadRect (inL c W s b f))
      = (xBlk b).view.read (Elt F) W := (read_inSlot ei hi _).trans (View.read_writes_whole _ _ _)
  refine (View.read_writes_whole _ _ _).trans ((read_outSlot eo ho _ _).trans ?_)
  exact congrArg (fun x => outBlock x (slotsM.view.read (Elt F) A1) (usageM.view.read (Elt F) B1)) e

/-- A point in the middle: the chunk two ahead is sent for, this point's chunk is waited for, the result sent four points
    before is waited for, and this point's result is sent. -/
theorem body_mid (h4 : 4 ≤ t.val) (h14 : t.val + 2 < 16) :
    iprop(xP c W (Ring.bk 16 (t.val + 2))
      ∗ inI c W (Ring.sl 3 t.val) (Ring.bk 16 t.val)
      ∗ inFree c (Ring.sl 3 (t.val + 2))
      ∗ outI c W A1 B1 (Ring.sl 4 t.val) (Ring.bk 16 (t.val - 4))
      ∗ yAhead c (Ring.bk 16 t.val)
      ∗ heldS c A1
      ∗ heldU c B1
      ∗ owes (c : Thread nD τ) 0 W0)
      ⊢ wp frame (wpE (defs₀ (F := F)) Variants.none c none) Set.univ (bodyAt0 t) (fun _ =>
        iprop(inI c W (Ring.sl 3 (t.val + 2)) (Ring.bk 16 (t.val + 2))
          ∗ xP c W (Ring.bk 16 t.val)
          ∗ inFree c (Ring.sl 3 t.val)
          ∗ outI c W A1 B1 (Ring.sl 4 t.val) (Ring.bk 16 t.val)
          ∗ yDone c W A1 B1 (Ring.bk 16 (t.val - 4))
          ∗ heldS c A1
          ∗ heldU c B1
          ∗ ∃ W', owes (c : Thread nD τ) 0 W')) := by
  have e1 : ¬ (((Scalar.cmpi .ne (Scalar.extui (Scalar.cmpi .eq (BitVec.ofNat 32 (grid0.coords t 0).val) 0#32) : BitVec 32) 0#32 = 1#1))) := fun h => by have := (cond1_iff t).mp h; omega
  have e2 : k0_cond2 (grid0.coords t) = 1#1 := (cond2_iff t).mpr (by omega)
  have e3 : k0_cond3 (grid0.coords t) = 1#1 := (cond3_iff t).mpr (by omega)
  have e5 : ¬ k0_cond5 (grid0.coords t) = 1#1 := fun h => by have := (cond5_iff t).mp h; omega
  unfold bodyAt0
  rw [cc0__bank_kernel_eq_skeleton]
  unfold cc0__bank_kernel_skel outI yAhead heldS heldU inI inFree Ring.inflight Ring.free
  iintro ⟨Hx2, ⟨%f1, Hin⟩, ⟨Hc2, ⟨%f2, Hs2⟩⟩, ⟨%g0, %f4, Hout, %hg0⟩, ⟨%gy, Hy⟩, ⟨%SL, HSL, %hS⟩, ⟨%US, HUS, %hU⟩, HW⟩
  sl_exec
  sl_step
  isplitl [Hc2]; · iexists f2; iexact Hc2
  isplitl [Hin_src]; · iexact Hin_src
  isplitl [Hin Hin_dst]
  · isplitl [Hin]; · iexact Hin
    iexists _; iexact Hin_dst
  isplitl [Hout]
  · iexists _; iexists _
    isplitl; · iexact Hout
    ipureintro; exact sent c W A1 B1 _ (o10 t) (o11 t) _ _ _ _ _ _ _ rfl rfl
  isplitl [Hout_dst]
  · unfold yDone; iexists g0
    isplitl; · iexact Hout_dst
    ipureintro; exact hg0
  isplitl [HSL]
  · iexists SL; isplitl; · iexact HSL
    ipureintro; exact hS
  isplitl [HUS]
  · iexists US; isplitl; · iexact HUS
    ipureintro; exact hU
  iexists _; iexact HW

/-- One of the points 1, 2, 3: no result is waited for yet. -/
theorem body_early (h1 : 1 ≤ t.val) (h4 : t.val < 4) :
    iprop(xP c W (Ring.bk 16 (t.val + 2))
      ∗ inI c W (Ring.sl 3 t.val) (Ring.bk 16 t.val)
      ∗ inFree c (Ring.sl 3 (t.val + 2))
      ∗ outFree c (Ring.sl 4 t.val)
      ∗ yAhead c (Ring.bk 16 t.val)
      ∗ heldS c A1
      ∗ heldU c B1
      ∗ owes (c : Thread nD τ) 0 W0)
      ⊢ wp frame (wpE (defs₀ (F := F)) Variants.none c none) Set.univ (bodyAt0 t) (fun _ =>
        iprop(inI c W (Ring.sl 3 (t.val + 2)) (Ring.bk 16 (t.val + 2))
          ∗ xP c W (Ring.bk 16 t.val)
          ∗ inFree c (Ring.sl 3 t.val)
          ∗ outI c W A1 B1 (Ring.sl 4 t.val) (Ring.bk 16 t.val)
          ∗ heldS c A1
          ∗ heldU c B1
          ∗ ∃ W', owes (c : Thread nD τ) 0 W')) := by
  have e1 : ¬ (((Scalar.cmpi .ne (Scalar.extui (Scalar.cmpi .eq (BitVec.ofNat 32 (grid0.coords t 0).val) 0#32) : BitVec 32) 0#32 = 1#1))) := fun h => by have := (cond1_iff t).mp h; omega
  have e2 : k0_cond2 (grid0.coords t) = 1#1 := (cond2_iff t).mpr (by omega)
  have e3 : ¬ k0_cond3 (grid0.coords t) = 1#1 := fun h => by have := (cond3_iff t).mp h; omega
  have e5 : ¬ k0_cond5 (grid0.coords t) = 1#1 := fun h => by have := (cond5_iff t).mp h; omega
  unfold bodyAt0
  rw [cc0__bank_kernel_eq_skeleton]
  unfold cc0__bank_kernel_skel outI yAhead heldS heldU inI inFree outFree Ring.inflight Ring.free
  iintro ⟨Hx2, ⟨%f1, Hin⟩, ⟨Hc2, ⟨%f2, Hs2⟩⟩, ⟨Hout, ⟨%f4, Hos⟩⟩, ⟨%gy, Hy⟩, ⟨%SL, HSL, %hS⟩, ⟨%US, HUS, %hU⟩, HW⟩
  sl_exec
  sl_step
  isplitl [Hc2]; · iexists f2; iexact Hc2
  isplitl [Hin_src]; · iexact Hin_src
  isplitl [Hin Hin_dst]
  · isplitl [Hin]; · iexact Hin
    iexists _; iexact Hin_dst
  isplitl [Hout]
  · iexists _; iexists _
    isplitl; · iexact Hout
    ipureintro; exact sent c W A1 B1 _ (o10 t) (o11 t) _ _ _ _ _ _ _ rfl rfl
  isplitl [HSL]
  · iexists SL; isplitl; · iexact HSL
    ipureintro; exact hS
  isplitl [HUS]
  · iexists US; isplitl; · iexact HUS
    ipureintro; exact hU
  iexists _; iexact HW

/-- Point 14: no chunk is left to be sent for. -/
theorem body_late (h14 : t.val = 14) :
    iprop(inI c W (Ring.sl 3 t.val) (Ring.bk 16 t.val)
      ∗ outI c W A1 B1 (Ring.sl 4 t.val) (Ring.bk 16 (t.val - 4))
      ∗ yAhead c (Ring.bk 16 t.val)
      ∗ heldS c A1
      ∗ heldU c B1
      ∗ owes (c : Thread nD τ) 0 W0)
      ⊢ wp frame (wpE (defs₀ (F := F)) Variants.none c none) Set.univ (bodyAt0 t) (fun _ =>
        iprop(xP c W (Ring.bk 16 t.val)
          ∗ inFree c (Ring.sl 3 t.val)
          ∗ outI c W A1 B1 (Ring.sl 4 t.val) (Ring.bk 16 t.val)
          ∗ yDone c W A1 B1 (Ring.bk 16 (t.val - 4))
          ∗ heldS c A1
          ∗ heldU c B1
          ∗ ∃ W', owes (c : Thread nD τ) 0 W')) := by
  have e1 : ¬ (((Scalar.cmpi .ne (Scalar.extui (Scalar.cmpi .eq (BitVec.ofNat 32 (grid0.coords t 0).val) 0#32) : BitVec 32) 0#32 = 1#1))) := fun h => by have := (cond1_iff t).mp h; omega
  have e2 : ¬ k0_cond2 (grid0.coords t) = 1#1 := fun h => by have := (cond2_iff t).mp h; omega
  have e3 : k0_cond3 (grid0.coords t) = 1#1 := (cond3_iff t).mpr (by omega)
  have e5 : ¬ k0_cond5 (grid0.coords t) = 1#1 := fun h => by have := (cond5_iff t).mp h; omega
  unfold bodyAt0
  rw [cc0__bank_kernel_eq_skeleton]
  unfold cc0__bank_kernel_skel outI yAhead heldS heldU inI inFree Ring.inflight Ring.free
  iintro ⟨⟨%f1, Hin⟩, ⟨%g0, %f4, Hout, %hg0⟩, ⟨%gy, Hy⟩, ⟨%SL, HSL, %hS⟩, ⟨%US, HUS, %hU⟩, HW⟩
  sl_exec
  sl_step
  isplitl [Hin_src]; · iexact Hin_src
  isplitl [Hin Hin_dst]
  · isplitl [Hin]; · iexact Hin
    iexists _; iexact Hin_dst
  isplitl [Hout]
  · iexists _; iexists _
    isplitl; · iexact Hout
    ipureintro; exact sent c W A1 B1 _ (o10 t) (o11 t) _ _ _ _ _ _ _ rfl rfl
  isplitl [Hout_dst]
  · unfold yDone; iexists g0
    isplitl; · iexact Hout_dst
    ipureintro; exact hg0
  isplitl [HSL]
  · iexists SL; isplitl; · iexact HSL
    ipureintro; exact hS
  isplitl [HUS]
  · iexists US; isplitl; · iexact HUS
    ipureintro; exact hU
  iexists _; iexact HW

/-- The last point: every result is waited for. -/
theorem body_last (h15 : t.val = 15) :
    iprop(inI c W (Ring.sl 3 t.val) (Ring.bk 16 t.val)
      ∗ outI c W A1 B1 (Ring.sl 4 t.val) (Ring.bk 16 (t.val - 4))
      ∗ outI c W A1 B1 (Ring.sl 4 (t.val + 1)) (Ring.bk 16 (t.val - 3))
      ∗ outI c W A1 B1 (Ring.sl 4 (t.val + 2)) (Ring.bk 16 (t.val - 2))
      ∗ outI c W A1 B1 (Ring.sl 4 (t.val + 3)) (Ring.bk 16 (t.val - 1))
      ∗ yAhead c (Ring.bk 16 t.val)
      ∗ heldS c A1
      ∗ heldU c B1
      ∗ owes (c : Thread nD τ) 0 W0)
      ⊢ wp frame (wpE (defs₀ (F := F)) Variants.none c none) Set.univ (bodyAt0 t) (fun _ =>
        iprop(xP c W (Ring.bk 16 t.val)
          ∗ inFree c (Ring.sl 3 t.val)
          ∗ yDone c W A1 B1 (Ring.bk 16 (t.val - 4))
          ∗ yDone c W A1 B1 (Ring.bk 16 (t.val - 3))
          ∗ yDone c W A1 B1 (Ring.bk 16 (t.val - 2))
          ∗ yDone c W A1 B1 (Ring.bk 16 (t.val - 1))
          ∗ yDone c W A1 B1 (Ring.bk 16 t.val)
          ∗ outFree c (Ring.sl 4 t.val)
          ∗ outFree c (Ring.sl 4 (t.val + 1))
          ∗ outFree c (Ring.sl 4 (t.val + 2))
          ∗ outFree c (Ring.sl 4 (t.val + 3))
          ∗ heldS c A1
          ∗ heldU c B1
          ∗ ∃ W', owes (c : Thread nD τ) 0 W')) := by
  have e1 : ¬ (((Scalar.cmpi .ne (Scalar.extui (Scalar.cmpi .eq (BitVec.ofNat 32 (grid0.coords t 0).val) 0#32) : BitVec 32) 0#32 = 1#1))) := fun h => by have := (cond1_iff t).mp h; omega
  have e2 : ¬ k0_cond2 (grid0.coords t) = 1#1 := fun h => by have := (cond2_iff t).mp h; omega
  have e3 : k0_cond3 (grid0.coords t) = 1#1 := (cond3_iff t).mpr (by omega)
  have e5 : k0_cond5 (grid0.coords t) = 1#1 := (cond5_iff t).mpr (by omega)
  unfold bodyAt0
  rw [cc0__bank_kernel_eq_skeleton]
  unfold cc0__bank_kernel_skel outI yAhead heldS heldU inI inFree outFree Ring.inflight Ring.free
  iintro ⟨⟨%f1, Hin⟩, ⟨%g0, %f4, Hout, %hg0⟩, ⟨%g1, %q1, Ho1, %hg1⟩, ⟨%g2, %q2, Ho2, %hg2⟩, ⟨%g3, %q3, Ho3, %hg3⟩, ⟨%gy, Hy⟩, ⟨%SL, HSL, %hS⟩, ⟨%US, HUS, %hU⟩, HW⟩
  sl_exec
  sl_step
  isplitl [Hin_src]; · iexact Hin_src
  isplitl [Hin Hin_dst]
  · isplitl [Hin]; · iexact Hin
    iexists _; iexact Hin_dst
  isplitl [Hout_dst]
  · unfold yDone; iexists g0
    isplitl; · iexact Hout_dst
    ipureintro; exact hg0
  isplitl [Ho1_dst]
  · unfold yDone; iexists g1
    isplitl; · iexact Ho1_dst
    ipureintro; exact hg1
  isplitl [Ho2_dst]
  · unfold yDone; iexists g2
    isplitl; · iexact Ho2_dst
    ipureintro; exact hg2
  isplitl [Ho3_dst]
  · unfold yDone; iexists g3
    isplitl; · iexact Ho3_dst
    ipureintro; exact hg3
  isplitl [Hy]
  · unfold yDone; iexists _
    isplitl; · iexact Hy
    ipureintro; exact sent c W A1 B1 _ (o10 t) (o11 t) _ _ _ _ _ _ _ rfl rfl
  isplitl [Hout Hout_src]
  · isplitl [Hout]; · iexact Hout
    iexists _; iexact Hout_src
  isplitl [Ho1 Ho1_src]
  · isplitl [Ho1]; · iexact Ho1
    iexists _; iexact Ho1_src
  isplitl [Ho2 Ho2_src]
  · isplitl [Ho2]; · iexact Ho2
    iexists _; iexact Ho2_src
  isplitl [Ho3 Ho3_src]
  · isplitl [Ho3]; · iexact Ho3
    iexists _; iexact Ho3_src
  isplitl [HSL]
  · iexists SL; isplitl; · iexact HSL
    ipureintro; exact hS
  isplitl [HUS]
  · iexists US; isplitl; · iexact HUS
    ipureintro; exact hU
  iexists _; iexact HW

/-- A load of a whole memref after a write of the whole of it reads what was written. -/
theorem readAt_write_full {κ : Kind} {sp : Space} {s : Shape} {e : EltTy} {Val : EltTy → Type} (v : View sig κ sp s e)
    {off : Fin s.rank → Nat} (inb : ∀ a, off a + s.size a ≤ s.size a) (f : v.ty.Contents Val) (w : s.Idx → Val e) :
    v.readAt Val (Rect.unit off s.size inb).toLoadRect (View.write Val v f w Finset.univ) = w := by
  rw [View.readAt_full, View.read_write_univ]

/-- The arrays the first point copies whole, their copies in VMEM and the two semaphores the copies are counted by. -/
abbrev slotsP (f : Buf (Elt F) (slotsM.view.loc (c : Thread nD τ))) : sProp 𝕄 := slotsM.view.loc (c : Thread nD τ) ↦{fullShare} f
abbrev usageP (f : Buf (Elt F) (usageM.view.loc (c : Thread nD τ))) : sProp 𝕄 := usageM.view.loc (c : Thread nD τ) ↦{fullShare} f
abbrev cellS : sProp 𝕄 := semVal ((c : Thread nD τ), SemLoc.dma (SemArray.sem cc0_scratch6)) 0
abbrev cellU : sProp 𝕄 := semVal ((c : Thread nD τ), SemLoc.dma (SemArray.sem cc0_scratch7)) 0
abbrev rawS : sProp 𝕄 := iprop(∃ f, slotsV.view.loc (c : Thread nD τ) ↦{fullShare} f)
abbrev rawU : sProp 𝕄 := iprop(∃ f, usageV.view.loc (c : Thread nD τ) ↦{fullShare} f)

/-- The first point: the slots and their usage are fetched, the first three chunks are sent for, the first is waited for and its
    result is sent. -/
theorem body_first :
    iprop(xP c W 0 ∗ xP c W 1 ∗ xP c W (Ring.bk 16 (t0_0.val + 2)) ∗ inFree c 0 ∗ inFree c 1 ∗ inFree c (Ring.sl 3 (t0_0.val + 2))
      ∗ outFree c (Ring.sl 4 t0_0.val) ∗ yAhead c (Ring.bk 16 t0_0.val)
      ∗ rawS c ∗ rawU c ∗ slotsP c A1 ∗ usageP c B1 ∗ cellS c ∗ cellU c ∗ owes (c : Thread nD τ) 0 W0)
      ⊢ wp frame (wpE (defs₀ (F := F)) Variants.none c none) Set.univ (bodyAt0 t0_0) (fun _ =>
        iprop(inI c W 1 1 ∗ inI c W (Ring.sl 3 (t0_0.val + 2)) (Ring.bk 16 (t0_0.val + 2)) ∗ xP c W 0 ∗ inFree c 0
          ∗ outI c W A1 B1 (Ring.sl 4 t0_0.val) (Ring.bk 16 t0_0.val) ∗ slotsP c A1 ∗ usageP c B1 ∗ cellS c ∗ cellU c
          ∗ heldS c A1 ∗ heldU c B1 ∗ ∃ W', owes (c : Thread nD τ) 0 W')) := by
  have ht : t0_0.val = 0 := rfl
  have e1 : ((Scalar.cmpi .ne (Scalar.extui (Scalar.cmpi .eq (BitVec.ofNat 32 (grid0.coords t0_0 0).val) 0#32) : BitVec 32) 0#32 = 1#1)) := (cond1_iff t0_0).mpr ht
  have e2 : k0_cond2 (grid0.coords t0_0) = 1#1 := (cond2_iff t0_0).mpr (by omega)
  have e3 : ¬ k0_cond3 (grid0.coords t0_0) = 1#1 := fun h => by have := (cond3_iff t0_0).mp h; omega
  have e5 : ¬ k0_cond5 (grid0.coords t0_0) = 1#1 := fun h => by have := (cond5_iff t0_0).mp h; omega
  unfold bodyAt0
  rw [cc0__bank_kernel_eq_skeleton]
  unfold cc0__bank_kernel_skel outI yAhead heldS heldU inI inFree outFree Ring.inflight Ring.free
  iintro ⟨Hx0, Hx1, Hx2, ⟨Hc0, ⟨%f0, Hs0⟩⟩, ⟨Hc1, ⟨%f1, Hs1⟩⟩, ⟨Hc2, ⟨%f2, Hs2⟩⟩, ⟨Hout, ⟨%f4, Hos⟩⟩, ⟨%gy, Hy⟩, ⟨%fs, HSL⟩, ⟨%fu, HUS⟩, HS, HU, H6, H7, HW⟩
  sl_exec
  sl_step
  isplitl [Hc1]; · iexists f1; iexact Hc1
  isplitl [Hc2]; · iexists f2; iexact Hc2
  isplitl [Hx0]; · iexact Hx0
  isplitl [Hc0 Hs0]
  · isplitl [Hc0]; · iexact Hc0
    iexists _; iexact Hs0
  isplitl [Hout]
  · iexists _; iexists _
    isplitl; · iexact Hout
    ipureintro
    exact sent c W A1 B1 _ (o10 t0_0) (o11 t0_0) _ _ _ _ _ _ _ (readAt_write_full _ _ _ _) (readAt_write_full _ _ _ _)
  isplitl [HS]; · iexact HS
  isplitl [HU]; · iexact HU
  isplitl [H6]; · iexact H6
  isplitl [H7]; · iexact H7
  isplitl [HSL]
  · iexists _; isplitl; · iexact HSL
    ipureintro; exact readAt_write_full _ _ _ _
  isplitl [HUS]
  · iexists _; isplitl; · iexact HUS
    ipureintro; exact readAt_write_full _ _ _ _
  iexists _; iexact HW

end Points

end Cert.KernelIdeal.Hand

end
-- ==== Proof.KernelIdealState.lean ====
/- What the core holds between two grid points: its two rings, the copies of the slots and of their usage, and the arrays. The ring
   buffers and the arrays cut into slots and chunks and joined again. -/
module

public import proofs.«01_k».proof.Proof.KernelIdealBody
public import Idealize.ShloMosaic.Lib.Ring.AtN
public import Idealize.ShloMosaic.Lib.Ring.WriteBehind

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F] [Named F]

local notation "𝕄" => MT nD τ sig Unit (Elt F) ℕ (Pipeline.UD sig nD τ) ℕ

theorem holds_of_eq {P Q : sProp 𝕄} (e : P = Q) : P ⊢ Q := e ▸ .rfl

/-! ## Slots and chunks cut their buffers -/

theorem inSlot_set (s : Fin 3) : (inSlot s).view.set = (Rect.unit (s := S3x2048x1024) ![s.val, 0, 0] S1x2048x1024.size (inb_in s)).set :=
  (View.set_reshape _ _).trans (View.set_slice_whole _ _)
theorem outSlot_set (s : Fin 4) : (outSlot s).view.set = (Rect.unit (s := S4x2048x1024) ![s.val, 0, 0] S1x2048x1024.size (inb_out s)).set :=
  (View.set_reshape _ _).trans (View.set_slice_whole _ _)
theorem xBlk_set (b : Fin 16) : (xBlk b).view.set = (Rect.unit (s := S32768x1024) ![2048 * b.val, 0] S2048x1024.size (inb_blk b)).set :=
  View.set_slice_whole _ _
theorem yBlk_set (b : Fin 16) : (yBlk b).view.set = (Rect.unit (s := S32768x1024) ![2048 * b.val, 0] S2048x1024.size (inb_blk b)).set :=
  View.set_slice_whole _ _

theorem in_disjoint (s s' : Fin 3) (h : s ≠ s') : Disjoint (Rect.unit (s := S3x2048x1024) ![s.val, 0, 0] S1x2048x1024.size (inb_in s)).set
    (Rect.unit (s := S3x2048x1024) ![s'.val, 0, 0] S1x2048x1024.size (inb_in s')).set :=
  Ring.lead_disjoint (s := S3x2048x1024) (a₀ := 0) (R := 1) (off := fun s : Fin 3 => ![s.val, 0, 0]) (size := S1x2048x1024.size) inb_in
    (fun s => (Nat.one_mul _).symm) rfl s s' h
theorem in_cover : Finset.univ.biUnion (fun s : Fin 3 => (Rect.unit (s := S3x2048x1024) ![s.val, 0, 0] S1x2048x1024.size (inb_in s)).set) = Finset.univ :=
  Ring.lead_cover (s := S3x2048x1024) (a₀ := 0) (R := 1) (off := fun s : Fin 3 => ![s.val, 0, 0]) (size := S1x2048x1024.size) inb_in
    (fun s => (Nat.one_mul _).symm) (by decide) rfl (by decide) rfl
theorem out_disjoint (s s' : Fin 4) (h : s ≠ s') : Disjoint (Rect.unit (s := S4x2048x1024) ![s.val, 0, 0] S1x2048x1024.size (inb_out s)).set
    (Rect.unit (s := S4x2048x1024) ![s'.val, 0, 0] S1x2048x1024.size (inb_out s')).set :=
  Ring.lead_disjoint (s := S4x2048x1024) (a₀ := 0) (R := 1) (off := fun s : Fin 4 => ![s.val, 0, 0]) (size := S1x2048x1024.size) inb_out
    (fun s => (Nat.one_mul _).symm) rfl s s' h
theorem out_cover : Finset.univ.biUnion (fun s : Fin 4 => (Rect.unit (s := S4x2048x1024) ![s.val, 0, 0] S1x2048x1024.size (inb_out s)).set) = Finset.univ :=
  Ring.lead_cover (s := S4x2048x1024) (a₀ := 0) (R := 1) (off := fun s : Fin 4 => ![s.val, 0, 0]) (size := S1x2048x1024.size) inb_out
    (fun s => (Nat.one_mul _).symm) (by decide) rfl (by decide) rfl
theorem blk_disjoint (b b' : Fin 16) (h : b ≠ b') : Disjoint (Rect.unit (s := S32768x1024) ![2048 * b.val, 0] S2048x1024.size (inb_blk b)).set
    (Rect.unit (s := S32768x1024) ![2048 * b'.val, 0] S2048x1024.size (inb_blk b')).set :=
  Ring.lead_disjoint (s := S32768x1024) (a₀ := 0) (R := 2048) (off := fun b : Fin 16 => ![2048 * b.val, 0]) (size := S2048x1024.size) inb_blk
    (fun _ => rfl) rfl b b' h
theorem blk_cover : Finset.univ.biUnion (fun b : Fin 16 => (Rect.unit (s := S32768x1024) ![2048 * b.val, 0] S2048x1024.size (inb_blk b)).set) = Finset.univ :=
  Ring.lead_cover (s := S32768x1024) (a₀ := 0) (R := 2048) (off := fun b : Fin 16 => ![2048 * b.val, 0]) (size := S2048x1024.size) inb_blk
    (fun _ => rfl) (by decide) rfl (by decide) rfl

section Cuts
variable (c : Dev nD) (W : Buf (Elt F) (xM.view.loc (c : Thread nD τ)))
  (A1 : Buf (Elt F) (slotsM.view.loc (c : Thread nD τ))) (B1 : Buf (Elt F) (usageM.view.loc (c : Thread nD τ)))

theorem inP_eq (s : Fin 3) (f : Buf (Elt F) ((c : Thread nD τ).loc cc0_scratch0)) :
    (inP c s f : sProp 𝕄) = ((c : Thread nD τ).loc cc0_scratch0 ↦[(Rect.unit (s := S3x2048x1024) ![s.val, 0, 0] S1x2048x1024.size (inb_in s)).set]{fullShare} f) :=
  congrArg (fun I : Finset S3x2048x1024.Idx => ((c : Thread nD τ).loc cc0_scratch0 ↦[I]{fullShare} f : sProp 𝕄)) (inSlot_set s)
theorem outP_eq (s : Fin 4) (f : Buf (Elt F) ((c : Thread nD τ).loc cc0_scratch1)) :
    (outP c s f : sProp 𝕄) = ((c : Thread nD τ).loc cc0_scratch1 ↦[(Rect.unit (s := S4x2048x1024) ![s.val, 0, 0] S1x2048x1024.size (inb_out s)).set]{fullShare} f) :=
  congrArg (fun I : Finset S4x2048x1024.Idx => ((c : Thread nD τ).loc cc0_scratch1 ↦[I]{fullShare} f : sProp 𝕄)) (outSlot_set s)
theorem xP_eq (b : Fin 16) :
    (xP c W b : sProp 𝕄) = ((c : Thread nD τ).loc main_v0 ↦[(Rect.unit (s := S32768x1024) ![2048 * b.val, 0] S2048x1024.size (inb_blk b)).set]{fullShare} W) :=
  congrArg (fun I : Finset S32768x1024.Idx => ((c : Thread nD τ).loc main_v0 ↦[I]{fullShare} W : sProp 𝕄)) (xBlk_set b)
theorem yP_eq (b : Fin 16) (g : Buf (Elt F) ((c : Thread nD τ).loc main_v2)) :
    (yP c b g : sProp 𝕄) = ((c : Thread nD τ).loc main_v2 ↦[(Rect.unit (s := S32768x1024) ![2048 * b.val, 0] S2048x1024.size (inb_blk b)).set]{fullShare} g) :=
  congrArg (fun I : Finset S32768x1024.Idx => ((c : Thread nD τ).loc main_v2 ↦[I]{fullShare} g : sProp 𝕄)) (yBlk_set b)

/-- The input array is its chunks. -/
theorem x_chunks : ((c : Thread nD τ).loc main_v0 ↦{fullShare} W : sProp 𝕄) = bigSep Finset.univ (xP c W) :=
  (Ring.pointsTo_blocks _ (fun b b' h => blk_disjoint b b' h) blk_cover W).trans (BI.bigSep_congr fun b _ => (xP_eq c W b).symm)

theorem y_chunks (g : Buf (Elt F) ((c : Thread nD τ).loc main_v2)) :
    ((c : Thread nD τ).loc main_v2 ↦{fullShare} g : sProp 𝕄) = bigSep Finset.univ (fun b => yP c b g) :=
  (Ring.pointsTo_blocks _ (fun b b' h => blk_disjoint b b' h) blk_cover g).trans (BI.bigSep_congr fun b _ => (yP_eq c b g).symm)

theorem in_some (s : Fin 3) (f : Buf (Elt F) ((c : Thread nD τ).loc cc0_scratch0)) : (inP c s f : sProp 𝕄) ⊢ iprop(∃ f, inP c s f) := by
  iintro H; iexists f; iexact H
theorem in_some_eq (s : Fin 3) : (iprop(∃ f, inP c s f) : sProp 𝕄) ⊢ iprop(∃ f, (c : Thread nD τ).loc cc0_scratch0 ↦[(Rect.unit (s := S3x2048x1024) ![s.val, 0, 0] S1x2048x1024.size (inb_in s)).set]{fullShare} f) := by
  iintro ⟨%f, H⟩; iexists f; iapply (holds_of_eq (inP_eq c s f)); iexact H
/-- The input ring's buffer is its slots. -/
theorem in_split : iprop(∃ f, (c : Thread nD τ).loc cc0_scratch0 ↦{fullShare} f) ⊢ (bigSep Finset.univ (fun s : Fin 3 => iprop(∃ f, inP c s f)) : sProp 𝕄) := by
  iintro ⟨%f, H⟩
  ihave H' := (holds_of_eq ((Ring.pointsTo_blocks _ (fun b b' h => in_disjoint b b' h) in_cover f).trans (BI.bigSep_congr fun s _ => (inP_eq c s f).symm))) $$ H
  iapply (show (bigSep Finset.univ (fun s : Fin 3 => inP c s f) : sProp 𝕄) ⊢ bigSep Finset.univ (fun s : Fin 3 => iprop(∃ f, inP c s f)) from
    BI.bigSep_mono fun s _ => in_some c s f)
  iexact H'
theorem in_join (f₀ : Buf (Elt F) ((c : Thread nD τ).loc cc0_scratch0)) :
    (bigSep Finset.univ (fun s : Fin 3 => iprop(∃ f, inP c s f)) : sProp 𝕄) ⊢ iprop(∃ f, (c : Thread nD τ).loc cc0_scratch0 ↦{fullShare} f) := by
  refine .trans ?_ (Ring.pointsTo_blocks_join_exists _ (fun b b' h => in_disjoint b b' h) in_cover f₀)
  exact BI.bigSep_mono fun s _ => in_some_eq c s
theorem out_some (s : Fin 4) (f : Buf (Elt F) ((c : Thread nD τ).loc cc0_scratch1)) : (outP c s f : sProp 𝕄) ⊢ iprop(∃ f, outP c s f) := by
  iintro H; iexists f; iexact H
theorem out_some_eq (s : Fin 4) : (iprop(∃ f, outP c s f) : sProp 𝕄) ⊢ iprop(∃ f, (c : Thread nD τ).loc cc0_scratch1 ↦[(Rect.unit (s := S4x2048x1024) ![s.val, 0, 0] S1x2048x1024.size (inb_out s)).set]{fullShare} f) := by
  iintro ⟨%f, H⟩; iexists f; iapply (holds_of_eq (outP_eq c s f)); iexact H
/-- The output ring's buffer is its slots. -/
theorem out_split : iprop(∃ f, (c : Thread nD τ).loc cc0_scratch1 ↦{fullShare} f) ⊢ (bigSep Finset.univ (fun s : Fin 4 => iprop(∃ f, outP c s f)) : sProp 𝕄) := by
  iintro ⟨%f, H⟩
  ihave H' := (holds_of_eq ((Ring.pointsTo_blocks _ (fun b b' h => out_disjoint b b' h) out_cover f).trans (BI.bigSep_congr fun s _ => (outP_eq c s f).symm))) $$ H
  iapply (show (bigSep Finset.univ (fun s : Fin 4 => outP c s f) : sProp 𝕄) ⊢ bigSep Finset.univ (fun s : Fin 4 => iprop(∃ f, outP c s f)) from
    BI.bigSep_mono fun s _ => out_some c s f)
  iexact H'
theorem out_join (f₀ : Buf (Elt F) ((c : Thread nD τ).loc cc0_scratch1)) :
    (bigSep Finset.univ (fun s : Fin 4 => iprop(∃ f, outP c s f)) : sProp 𝕄) ⊢ iprop(∃ f, (c : Thread nD τ).loc cc0_scratch1 ↦{fullShare} f) := by
  refine .trans ?_ (Ring.pointsTo_blocks_join_exists _ (fun b b' h => out_disjoint b b' h) out_cover f₀)
  exact BI.bigSep_mono fun s _ => out_some_eq c s

/-- The row and column of an index of the result within its chunk, and the chunk. -/
def chunkOf (i : S32768x1024.Idx) : Fin 16 := ⟨(i 0).val / 2048, by have h : (i 0).val < 32768 := (i 0).isLt; show (i 0).val / 2048 < 16; omega⟩
def inChunk (i : S32768x1024.Idx) : S2048x1024.Idx :=
  fun a => ⟨![(i 0).val % 2048, (i 1).val] a, by
    have h1 : (i 1).val < 1024 := (i 1).isLt
    match a with
    | ⟨0, _⟩ => exact Nat.mod_lt _ (by decide)
    | ⟨1, _⟩ => exact h1⟩

/-- The whole result: at each index, its chunk's. -/
def whole : Buf (Elt F) ((c : Thread nD τ).loc main_v2) := fun i => res c W A1 B1 (chunkOf i) (inChunk i)

/-- Its chunks are the ones the points make. -/
theorem read_whole (b : Fin 16) : (yBlk b).view.read (Elt F) (whole c W A1 B1) = res c W A1 B1 b := by
  funext x
  have hx : (x 0).val < 2048 := (x 0).isLt
  have e0 : ∀ i : S32768x1024.Idx, (i 0).val = 2048 * b.val + (x 0).val → (i 1).val = (x 1).val →
      res c W A1 B1 (chunkOf i) (inChunk i) = res c W A1 B1 b x := by
    intro i h0 h1
    have eb : chunkOf i = b := Fin.ext (by show (i 0).val / 2048 = b.val; omega)
    have ex : inChunk i = x := by
      funext a; refine Fin.ext ?_
      match a with
      | ⟨0, _⟩ => show (i 0).val % 2048 = (x 0).val; omega
      | ⟨1, _⟩ => exact h1
    rw [eb, ex]
  exact e0 ((yBlk b).view.emb x) (by show 2048 * b.val + 1 * (x 0).val = _; omega) (by show 0 + 1 * (x 1).val = _; omega)

theorem yDone_whole (b : Fin 16) : yDone c W A1 B1 b ⊢ (yP c b (whole c W A1 B1) : sProp 𝕄) := by
  unfold yDone
  iintro ⟨%g, H, %h⟩
  iapply (show (yP c b g : sProp 𝕄) ⊢ yP c b (whole c W A1 B1) from by
    refine holds_of_eq ((pointsTo_rep (Ix := Unit) (Name := ℕ) (U := Pipeline.UD sig nD τ) (Lvl := ℕ) (c : Thread nD τ) (yBlk b) g fullShare).trans ?_)
    rw [h, ← read_whole c W A1 B1 b]
    exact (pointsTo_rep (c : Thread nD τ) (yBlk b) _ fullShare).symm)
  iexact H

end Cuts

/-! ## A ring of four slots written four points behind -/

section BehindFour
variable {M : Type _} [URA M] (free : Fin 4 → sProp M) (infl : Fin 4 → Fin 16 → sProp M) (ahead behind : Fin 16 → sProp M)

/-- The state of the `j`-th slot from point `p`'s: its chunk of four points earlier on its way, or free if there is none. -/
def role4 (p j : ℕ) : sProp M := if 4 ≤ p + j then infl (Ring.sl 4 (p + j)) (Ring.bk 16 (p + j - 4)) else free (Ring.sl 4 (p + j))

theorem roleB_eq (p : ℕ) (j : Fin 4) : Ring.roleB 4 free infl p j = role4 free infl p j.val := by
  unfold Ring.roleB role4
  by_cases h : 4 ≤ p + j.val
  · rw [if_pos ⟨h, by omega⟩, if_pos h]
  · rw [if_neg (fun hh => h hh.1), if_neg h]

theorem role4_succ (p j : ℕ) : role4 free infl (p + 1) j = role4 free infl p (j + 1) := by
  unfold role4; rw [show p + 1 + j = p + (j + 1) by omega]

theorem role4_infl (p j : ℕ) (h : 4 ≤ p + j) : role4 free infl p j = infl (Ring.sl 4 (p + j)) (Ring.bk 16 (p + j - 4)) := if_pos h
theorem role4_free (p : ℕ) (h : p < 4) : role4 free infl p 0 = free (Ring.sl 4 p) := if_neg (by omega)
theorem role4_last (p : ℕ) : role4 free infl p 4 = infl (Ring.sl 4 p) (Ring.bk 16 p) := by
  unfold role4
  rw [if_pos (by omega), show p + 4 - 4 = p by omega, show Ring.sl 4 (p + 4) = Ring.sl 4 p from Fin.ext (by simp [Ring.sl, Fin.ofNat])]

/-- Before point `p`: its chunk of the result apart from those after it, its slot apart from the other three. -/
theorem behind_here (p : ℕ) (h : p < 16) :
    Ring.AtB 4 free infl ahead behind p
      = iprop((ahead (Ring.bk 16 p) ∗ bigSep (Ring.aheadSet (p + 1)) ahead) ∗ bigSep (Ring.behindSet 4 p) behind
          ∗ role4 free infl p 0 ∗ role4 free infl p 1 ∗ role4 free infl p 2 ∗ role4 free infl p 3) := by
  unfold Ring.AtB
  rw [Ring.aheadSet_open p h, Ring.bigSep_put (Ring.bk_not_mem_aheadSet_succ p h), Ring.bigSep_fin4, roleB_eq, roleB_eq, roleB_eq, roleB_eq]
  rfl

/-- Before the next point: the other three slots as they were, the point's own on its way. -/
theorem behind_next (p : ℕ) :
    Ring.AtB 4 free infl ahead behind (p + 1)
      = iprop(bigSep (Ring.aheadSet (p + 1)) ahead ∗ bigSep (Ring.behindSet 4 (p + 1)) behind
          ∗ role4 free infl p 1 ∗ role4 free infl p 2 ∗ role4 free infl p 3 ∗ infl (Ring.sl 4 p) (Ring.bk 16 p)) := by
  unfold Ring.AtB
  rw [Ring.bigSep_fin4, roleB_eq, roleB_eq, roleB_eq, roleB_eq]
  show iprop(_ ∗ _ ∗ role4 free infl (p + 1) 0 ∗ role4 free infl (p + 1) 1 ∗ role4 free infl (p + 1) 2 ∗ role4 free infl (p + 1) 3) = _
  rw [role4_succ, role4_succ, role4_succ, role4_succ, role4_last]

/-- Early on no chunk is behind; later one more is behind after each point. -/
theorem behind_early (p : ℕ) (h : p < 4) : bigSep (Ring.behindSet 4 (p + 1)) behind = bigSep (Ring.behindSet 4 p) behind := by
  rw [Ring.behindSet_boot 4 p (by omega), Ring.behindSet_boot 4 (p + 1) (by omega)]
theorem behind_more (p : ℕ) (h4 : 4 ≤ p) (h : p < 16) :
    bigSep (Ring.behindSet 4 (p + 1)) behind = iprop(behind (Ring.bk 16 (p - 4)) ∗ bigSep (Ring.behindSet 4 p) behind) := by
  rw [Ring.behindSet_close 4 p h4 h, Ring.bigSep_put (Ring.bk_not_mem_behindSet 4 p h4 h)]

/-- After the last point, which waits for its own chunk and the four before it, all is behind and every slot is free. -/
theorem behind_end (p : ℕ) (h : p = 15) :
    Ring.AtBEnd free behind
      = iprop((behind (Ring.bk 16 p) ∗ behind (Ring.bk 16 (p - 1)) ∗ behind (Ring.bk 16 (p - 2)) ∗ behind (Ring.bk 16 (p - 3))
            ∗ behind (Ring.bk 16 (p - 4)) ∗ bigSep (Ring.behindSet 4 p) behind)
          ∗ free (Ring.sl 4 (p + 1)) ∗ free (Ring.sl 4 (p + 2)) ∗ free (Ring.sl 4 (p + 3)) ∗ free (Ring.sl 4 p)) := by
  subst h
  unfold Ring.AtBEnd
  rw [show (Finset.univ : Finset (Fin 16)) = insert (Ring.bk 16 15) (insert (Ring.bk 16 (15 - 1)) (insert (Ring.bk 16 (15 - 2))
      (insert (Ring.bk 16 (15 - 3)) (insert (Ring.bk 16 (15 - 4)) (Ring.behindSet 4 15))))) by decide,
    Ring.bigSep_put (by decide), Ring.bigSep_put (by decide), Ring.bigSep_put (by decide), Ring.bigSep_put (by decide),
    Ring.bigSep_put (by decide), Ring.bigSep_fin4]
  rfl

end BehindFour

/-! ## What is held before each point -/

section Invariant
variable (c : Dev nD) (W : Buf (Elt F) (xM.view.loc (c : Thread nD τ)))
  (A1 : Buf (Elt F) (slotsM.view.loc (c : Thread nD τ))) (B1 : Buf (Elt F) (usageM.view.loc (c : Thread nD τ)))

/-- The input ring before point `p`: two chunks ahead of it in flight, and before the first point none. -/
def inRing (p : ℕ) : sProp 𝕄 :=
  if p = 0 then Ring.At₀ (inC c) (fun s f => inP c s f) (xP c W)
  else Ring.At 2 (inC c) (fun s f => inP c s f) (xP c W) (fun s b f => inF c W s b f) p
/-- The output ring before point `p`: the last four chunks on their way, and after the last point none. -/
def outRing (p : ℕ) : sProp 𝕄 := Ring.AtBΦ 4 (outFree c) (outI c W A1 B1) (yAhead c) (yDone c W A1 B1) p
/-- The arrays of the slots and of their usage, and the semaphores of the copies of these. -/
def arrays : sProp 𝕄 := iprop(slotsP c A1 ∗ usageP c B1 ∗ cellS c ∗ cellU c)
/-- The copies: something before the first point, and the arrays from then on. -/
def copies (p : ℕ) : sProp 𝕄 := if p = 0 then iprop(rawS c ∗ rawU c) else iprop(heldS c A1 ∗ heldU c B1)
/-- Everything held before point `p`. -/
def Inv (p : ℕ) : sProp 𝕄 := iprop(inRing c W p ∗ outRing c W A1 B1 p ∗ copies c A1 B1 p ∗ arrays c A1 B1)

/-- A run with something set aside. -/
theorem set_aside {P Q R X Y : sProp 𝕄} {t : Fin cfg0.N}
    (h : P ⊢ wp frame (wpE (defs₀ (F := F)) Variants.none c none) Set.univ (bodyAt0 t) (fun _ => Q)) (h1 : X ⊢ iprop(P ∗ R)) (h2 : iprop(Q ∗ R) ⊢ Y) :
    X ⊢ wp frame (wpE (defs₀ (F := F)) Variants.none c none) Set.univ (bodyAt0 t) (fun _ => Y) :=
  h1.trans ((sep_mono h .rfl).trans ((wp_frame_r _ _ _).trans (wp_mono _ _ _ fun _ => h2)))

variable (t : Fin cfg0.N) (W0 : Waits sig Unit)

/-- A point from the fifth on that sends for a chunk. -/
theorem step_mid (h4 : 4 ≤ t.val) (h14 : t.val + 2 < 16) :
    iprop(Inv c W A1 B1 t.val ∗ owes (c : Thread nD τ) 0 W0)
      ⊢ wp frame (wpE (defs₀ (F := F)) Variants.none c none) Set.univ (bodyAt0 t) (fun _ =>
        iprop(Inv c W A1 B1 (t.val + 1) ∗ ∃ W', owes (c : Thread nD τ) 0 W')) := by
  refine set_aside c (body_mid c W A1 B1 t W0 h4 h14) (R := iprop(bigSep ((Ring.homeSet 2 t.val).erase (Ring.bk 16 (t.val + 2))) (xP c W) ∗ Ring.inflight (fun s b f => inF c W s b f) (Ring.sl 3 (t.val + 1)) (Ring.bk 16 (t.val + 1)) ∗ bigSep (Ring.aheadSet (t.val + 1)) (yAhead c) ∗ bigSep (Ring.behindSet 4 t.val) (yDone c W A1 B1) ∗ role4 (outFree c) (outI c W A1 B1) t.val 1 ∗ role4 (outFree c) (outI c W A1 B1) t.val 2 ∗ role4 (outFree c) (outI c W A1 B1) t.val 3 ∗ arrays c A1 B1)) ?_ ?_
  · unfold Inv inRing outRing copies
    rw [if_neg (show ¬ t.val = 0 by omega), if_neg (show ¬ t.val = 0 by omega), Ring.At3_here _ _ _ _ t.val (by omega), Ring.AtBΦ_lt _ _ _ _ _ t.val (by omega), behind_here _ _ _ _ t.val (by omega), role4_infl _ _ t.val 0 (by omega), Nat.add_zero]
    iintro ⟨⟨⟨⟨Hx, HX⟩, Hi, Hi1, Hf⟩, ⟨⟨Ha, HA⟩, HB, Hr, Hr1, Hr2, Hr3⟩, ⟨Hs, Hu⟩, HK⟩, HW⟩
    isplitl [Hx Hi Hf Hr Ha Hs Hu HW]
    · isplitl [Hx]; · iexact Hx
      isplitl [Hi]; · iexact Hi
      isplitl [Hf]; · iexact Hf
      isplitl [Hr]; · iexact Hr
      isplitl [Ha]; · iexact Ha
      isplitl [Hs]; · iexact Hs
      isplitl [Hu]; · iexact Hu
      iexact HW
    isplitl [HX]; · iexact HX
    isplitl [Hi1]; · iexact Hi1
    isplitl [HA]; · iexact HA
    isplitl [HB]; · iexact HB
    isplitl [Hr1]; · iexact Hr1
    isplitl [Hr2]; · iexact Hr2
    isplitl [Hr3]; · iexact Hr3
    iexact HK
  · unfold Inv inRing outRing copies
    rw [if_neg (show ¬ (t.val + 1 = 0) by omega), if_neg (show ¬ (t.val + 1 = 0) by omega), Ring.At3_next _ _ _ _ t.val (by omega), Ring.slotAt3_next0 _ _ _ t.val (by omega), Ring.slotAt3_next1 _ _ _ t.val (by omega), Ring.AtBΦ_lt _ _ _ _ _ (t.val + 1) (by omega), behind_next, behind_more _ t.val h4 (by omega)]
    iintro ⟨⟨Hi2, Hx, Hf, Hr, Hd, Hs, Hu, HW⟩, HX, Hi1, HA, HB, Hr1, Hr2, Hr3, HK⟩
    isplitl [Hx HX Hi1 Hi2 Hf HA Hd HB Hr1 Hr2 Hr3 Hr Hs Hu HK]
    · isplitl [Hx HX Hi1 Hi2 Hf]
      · isplitl [Hx HX]
        · isplitl [Hx]; · iexact Hx
          iexact HX
        isplitl [Hi1]; · iexact Hi1
        isplitl [Hi2]; · iexact Hi2
        iexact Hf
      isplitl [HA Hd HB Hr1 Hr2 Hr3 Hr]
      · isplitl [HA]; · iexact HA
        isplitl [Hd HB]
        · isplitl [Hd]; · iexact Hd
          iexact HB
        isplitl [Hr1]; · iexact Hr1
        isplitl [Hr2]; · iexact Hr2
        isplitl [Hr3]; · iexact Hr3
        iexact Hr
      isplitl [Hs Hu]
      · isplitl [Hs]; · iexact Hs
        iexact Hu
      iexact HK
    iexact HW

/-- A point before the fifth, not the first. -/
theorem step_early (h1 : 1 ≤ t.val) (h4 : t.val < 4) :
    iprop(Inv c W A1 B1 t.val ∗ owes (c : Thread nD τ) 0 W0)
      ⊢ wp frame (wpE (defs₀ (F := F)) Variants.none c none) Set.univ (bodyAt0 t) (fun _ =>
        iprop(Inv c W A1 B1 (t.val + 1) ∗ ∃ W', owes (c : Thread nD τ) 0 W')) := by
  refine set_aside c (body_early c W A1 B1 t W0 h1 h4) (R := iprop(bigSep ((Ring.homeSet 2 t.val).erase (Ring.bk 16 (t.val + 2))) (xP c W) ∗ Ring.inflight (fun s b f => inF c W s b f) (Ring.sl 3 (t.val + 1)) (Ring.bk 16 (t.val + 1)) ∗ bigSep (Ring.aheadSet (t.val + 1)) (yAhead c) ∗ bigSep (Ring.behindSet 4 t.val) (yDone c W A1 B1) ∗ role4 (outFree c) (outI c W A1 B1) t.val 1 ∗ role4 (outFree c) (outI c W A1 B1) t.val 2 ∗ role4 (outFree c) (outI c W A1 B1) t.val 3 ∗ arrays c A1 B1)) ?_ ?_
  · unfold Inv inRing outRing copies
    rw [if_neg (show ¬ t.val = 0 by omega), if_neg (show ¬ t.val = 0 by omega), Ring.At3_here _ _ _ _ t.val (by omega), Ring.AtBΦ_lt _ _ _ _ _ t.val (by omega), behind_here _ _ _ _ t.val (by omega), role4_free _ _ t.val h4]
    iintro ⟨⟨⟨⟨Hx, HX⟩, Hi, Hi1, Hf⟩, ⟨⟨Ha, HA⟩, HB, Hr, Hr1, Hr2, Hr3⟩, ⟨Hs, Hu⟩, HK⟩, HW⟩
    isplitl [Hx Hi Hf Hr Ha Hs Hu HW]
    · isplitl [Hx]; · iexact Hx
      isplitl [Hi]; · iexact Hi
      isplitl [Hf]; · iexact Hf
      isplitl [Hr]; · iexact Hr
      isplitl [Ha]; · iexact Ha
      isplitl [Hs]; · iexact Hs
      isplitl [Hu]; · iexact Hu
      iexact HW
    isplitl [HX]; · iexact HX
    isplitl [Hi1]; · iexact Hi1
    isplitl [HA]; · iexact HA
    isplitl [HB]; · iexact HB
    isplitl [Hr1]; · iexact Hr1
    isplitl [Hr2]; · iexact Hr2
    isplitl [Hr3]; · iexact Hr3
    iexact HK
  · unfold Inv inRing outRing copies
    rw [if_neg (show ¬ (t.val + 1 = 0) by omega), if_neg (show ¬ (t.val + 1 = 0) by omega), Ring.At3_next _ _ _ _ t.val (by omega), Ring.slotAt3_next0 _ _ _ t.val (by omega), Ring.slotAt3_next1 _ _ _ t.val (by omega), Ring.AtBΦ_lt _ _ _ _ _ (t.val + 1) (by omega), behind_next, behind_early _ t.val h4]
    iintro ⟨⟨Hi2, Hx, Hf, Hr, Hs, Hu, HW⟩, HX, Hi1, HA, HB, Hr1, Hr2, Hr3, HK⟩
    isplitl [Hx HX Hi1 Hi2 Hf HA HB Hr1 Hr2 Hr3 Hr Hs Hu HK]
    · isplitl [Hx HX Hi1 Hi2 Hf]
      · isplitl [Hx HX]
        · isplitl [Hx]; · iexact Hx
          iexact HX
        isplitl [Hi1]; · iexact Hi1
        isplitl [Hi2]; · iexact Hi2
        iexact Hf
      isplitl [HA HB Hr1 Hr2 Hr3 Hr]
      · isplitl [HA]; · iexact HA
        isplitl [HB]; · iexact HB
        isplitl [Hr1]; · iexact Hr1
        isplitl [Hr2]; · iexact Hr2
        isplitl [Hr3]; · iexact Hr3
        iexact Hr
      isplitl [Hs Hu]
      · isplitl [Hs]; · iexact Hs
        iexact Hu
      iexact HK
    iexact HW

/-- The last point but one. -/
theorem step_late (h14 : t.val = 14) :
    iprop(Inv c W A1 B1 t.val ∗ owes (c : Thread nD τ) 0 W0)
      ⊢ wp frame (wpE (defs₀ (F := F)) Variants.none c none) Set.univ (bodyAt0 t) (fun _ =>
        iprop(Inv c W A1 B1 (t.val + 1) ∗ ∃ W', owes (c : Thread nD τ) 0 W')) := by
  refine set_aside c (body_late c W A1 B1 t W0 h14) (R := iprop(bigSep (Ring.homeSet 2 t.val) (xP c W) ∗ Ring.slotAt 2 (inC c) (fun s f => inP c s f) (fun s b f => inF c W s b f) t.val 1 ∗ Ring.free (inC c) (fun s f => inP c s f) (Ring.sl 3 (t.val + 2)) ∗ bigSep (Ring.aheadSet (t.val + 1)) (yAhead c) ∗ bigSep (Ring.behindSet 4 t.val) (yDone c W A1 B1) ∗ role4 (outFree c) (outI c W A1 B1) t.val 1 ∗ role4 (outFree c) (outI c W A1 B1) t.val 2 ∗ role4 (outFree c) (outI c W A1 B1) t.val 3 ∗ arrays c A1 B1)) ?_ ?_
  · unfold Inv inRing outRing copies
    rw [if_neg (show ¬ t.val = 0 by omega), if_neg (show ¬ t.val = 0 by omega), Ring.At3_here_tail _ _ _ _ t.val (by omega), Ring.AtBΦ_lt _ _ _ _ _ t.val (by omega), behind_here _ _ _ _ t.val (by omega), role4_infl _ _ t.val 0 (by omega), Nat.add_zero]
    iintro ⟨⟨⟨HX, Hi, Hi1, Hf⟩, ⟨⟨Ha, HA⟩, HB, Hr, Hr1, Hr2, Hr3⟩, ⟨Hs, Hu⟩, HK⟩, HW⟩
    isplitl [Hi Hr Ha Hs Hu HW]
    · isplitl [Hi]; · iexact Hi
      isplitl [Hr]; · iexact Hr
      isplitl [Ha]; · iexact Ha
      isplitl [Hs]; · iexact Hs
      isplitl [Hu]; · iexact Hu
      iexact HW
    isplitl [HX]; · iexact HX
    isplitl [Hi1]; · iexact Hi1
    isplitl [Hf]; · iexact Hf
    isplitl [HA]; · iexact HA
    isplitl [HB]; · iexact HB
    isplitl [Hr1]; · iexact Hr1
    isplitl [Hr2]; · iexact Hr2
    isplitl [Hr3]; · iexact Hr3
    iexact HK
  · unfold Inv inRing outRing copies
    rw [if_neg (show ¬ (t.val + 1 = 0) by omega), if_neg (show ¬ (t.val + 1 = 0) by omega), Ring.At3_next_tail _ _ _ _ t.val (by omega) (by omega), Ring.slotAt3_tail_role, Ring.AtBΦ_lt _ _ _ _ _ (t.val + 1) (by omega), behind_next, behind_more _ t.val (by omega) (by omega)]
    iintro ⟨⟨Hx, Hf0, Hr, Hd, Hs, Hu, HW⟩, HX, Hi1, Hf, HA, HB, Hr1, Hr2, Hr3, HK⟩
    isplitl [Hx HX Hi1 Hf Hf0 HA Hd HB Hr1 Hr2 Hr3 Hr Hs Hu HK]
    · isplitl [Hx HX Hi1 Hf Hf0]
      · isplitl [Hx HX]
        · isplitl [Hx]; · iexact Hx
          iexact HX
        isplitl [Hi1]; · iexact Hi1
        isplitl [Hf]; · iexact Hf
        iexact Hf0
      isplitl [HA Hd HB Hr1 Hr2 Hr3 Hr]
      · isplitl [HA]; · iexact HA
        isplitl [Hd HB]
        · isplitl [Hd]; · iexact Hd
          iexact HB
        isplitl [Hr1]; · iexact Hr1
        isplitl [Hr2]; · iexact Hr2
        isplitl [Hr3]; · iexact Hr3
        iexact Hr
      isplitl [Hs Hu]
      · isplitl [Hs]; · iexact Hs
        iexact Hu
      iexact HK
    iexact HW

/-- The last point. -/
theorem step_last (h15 : t.val = 15) :
    iprop(Inv c W A1 B1 t.val ∗ owes (c : Thread nD τ) 0 W0)
      ⊢ wp frame (wpE (defs₀ (F := F)) Variants.none c none) Set.univ (bodyAt0 t) (fun _ =>
        iprop(Inv c W A1 B1 (t.val + 1) ∗ ∃ W', owes (c : Thread nD τ) 0 W')) := by
  refine set_aside c (body_last c W A1 B1 t W0 h15) (R := iprop(bigSep (Ring.homeSet 2 t.val) (xP c W) ∗ Ring.slotAt 2 (inC c) (fun s f => inP c s f) (fun s b f => inF c W s b f) t.val 1 ∗ Ring.free (inC c) (fun s f => inP c s f) (Ring.sl 3 (t.val + 2)) ∗ bigSep (Ring.behindSet 4 t.val) (yDone c W A1 B1) ∗ arrays c A1 B1)) ?_ ?_
  · unfold Inv inRing outRing copies
    rw [if_neg (show ¬ t.val = 0 by omega), if_neg (show ¬ t.val = 0 by omega), Ring.At3_here_tail _ _ _ _ t.val (by omega), Ring.AtBΦ_lt _ _ _ _ _ t.val (by omega), behind_here _ _ _ _ t.val (by omega), role4_infl _ _ t.val 0 (by omega), role4_infl _ _ t.val 1 (by omega), role4_infl _ _ t.val 2 (by omega), role4_infl _ _ t.val 3 (by omega), Nat.add_zero, show t.val + 1 - 4 = t.val - 3 by omega, show t.val + 2 - 4 = t.val - 2 by omega, show t.val + 3 - 4 = t.val - 1 by omega]
    iintro ⟨⟨⟨HX, Hi, Hi1, Hf⟩, ⟨⟨Ha, HA⟩, HB, Hr, Hr1, Hr2, Hr3⟩, ⟨Hs, Hu⟩, HK⟩, HW⟩
    isplitl [Hi Hr Hr1 Hr2 Hr3 Ha Hs Hu HW]
    · isplitl [Hi]; · iexact Hi
      isplitl [Hr]; · iexact Hr
      isplitl [Hr1]; · iexact Hr1
      isplitl [Hr2]; · iexact Hr2
      isplitl [Hr3]; · iexact Hr3
      isplitl [Ha]; · iexact Ha
      isplitl [Hs]; · iexact Hs
      isplitl [Hu]; · iexact Hu
      iexact HW
    isplitl [HX]; · iexact HX
    isplitl [Hi1]; · iexact Hi1
    isplitl [Hf]; · iexact Hf
    isplitl [HB]; · iexact HB
    iexact HK
  · unfold Inv inRing outRing copies
    rw [if_neg (show ¬ (t.val + 1 = 0) by omega), if_neg (show ¬ (t.val + 1 = 0) by omega), Ring.At3_next_tail _ _ _ _ t.val (by omega) (by omega), Ring.slotAt3_tail_role, Ring.AtBΦ_end _ _ _ _ _ (t.val + 1) (by omega), behind_end _ _ t.val h15]
    iintro ⟨⟨Hx, Hf0, Hd4, Hd3, Hd2, Hd1, Hd0, Hr, Hr1, Hr2, Hr3, Hs, Hu, HW⟩, HX, Hi1, Hf, HB, HK⟩
    isplitl [Hx HX Hi1 Hf Hf0 Hd0 Hd1 Hd2 Hd3 Hd4 HB Hr1 Hr2 Hr3 Hr Hs Hu HK]
    · isplitl [Hx HX Hi1 Hf Hf0]
      · isplitl [Hx HX]
        · isplitl [Hx]; · iexact Hx
          iexact HX
        isplitl [Hi1]; · iexact Hi1
        isplitl [Hf]; · iexact Hf
        iexact Hf0
      isplitl [Hd0 Hd1 Hd2 Hd3 Hd4 HB Hr1 Hr2 Hr3 Hr]
      · isplitl [Hd0 Hd1 Hd2 Hd3 Hd4 HB]
        · isplitl [Hd0]; · iexact Hd0
          isplitl [Hd1]; · iexact Hd1
          isplitl [Hd2]; · iexact Hd2
          isplitl [Hd3]; · iexact Hd3
          isplitl [Hd4]; · iexact Hd4
          iexact HB
        isplitl [Hr1]; · iexact Hr1
        isplitl [Hr2]; · iexact Hr2
        isplitl [Hr3]; · iexact Hr3
        iexact Hr
      isplitl [Hs Hu]
      · isplitl [Hs]; · iexact Hs
        iexact Hu
      iexact HK
    iexact HW

/-- The first point. -/
theorem step_first  :
    iprop(Inv c W A1 B1 0 ∗ owes (c : Thread nD τ) 0 W0)
      ⊢ wp frame (wpE (defs₀ (F := F)) Variants.none c none) Set.univ (bodyAt0 t0_0) (fun _ =>
        iprop(Inv c W A1 B1 (0 + 1) ∗ ∃ W', owes (c : Thread nD τ) 0 W')) := by
  refine set_aside c (body_first c W A1 B1 W0) (R := iprop(bigSep ((Ring.homeSet 2 0).erase (Ring.bk 16 2)) (xP c W) ∗ bigSep (Ring.aheadSet (0 + 1)) (yAhead c) ∗ bigSep (Ring.behindSet 4 0) (yDone c W A1 B1) ∗ role4 (outFree c) (outI c W A1 B1) 0 1 ∗ role4 (outFree c) (outI c W A1 B1) 0 2 ∗ role4 (outFree c) (outI c W A1 B1) 0 3)) ?_ ?_
  · unfold Inv inRing outRing copies
    unfold arrays
    rw [if_pos rfl, if_pos rfl, Ring.At₀_eq3 _ _ _ (by decide), Ring.AtBΦ_lt _ _ _ _ _ 0 (by decide), behind_here _ _ _ _ 0 (by decide), role4_free _ _ 0 (by decide)]
    iintro ⟨⟨⟨⟨Hx0, Hx1, Hx2, HX⟩, Hf0, Hf1, Hf2⟩, ⟨⟨Ha, HA⟩, HB, Hr, Hr1, Hr2, Hr3⟩, ⟨Hs, Hu⟩, ⟨Hsm, Hum, Hcs, Hcu⟩⟩, HW⟩
    isplitl [Hx0 Hx1 Hx2 Hf0 Hf1 Hf2 Hr Ha Hs Hu Hsm Hum Hcs Hcu HW]
    · isplitl [Hx0]; · iexact Hx0
      isplitl [Hx1]; · iexact Hx1
      isplitl [Hx2]; · iexact Hx2
      isplitl [Hf0]; · iexact Hf0
      isplitl [Hf1]; · iexact Hf1
      isplitl [Hf2]; · iexact Hf2
      isplitl [Hr]; · iexact Hr
      isplitl [Ha]; · iexact Ha
      isplitl [Hs]; · iexact Hs
      isplitl [Hu]; · iexact Hu
      isplitl [Hsm]; · iexact Hsm
      isplitl [Hum]; · iexact Hum
      isplitl [Hcs]; · iexact Hcs
      isplitl [Hcu]; · iexact Hcu
      iexact HW
    isplitl [HX]; · iexact HX
    isplitl [HA]; · iexact HA
    isplitl [HB]; · iexact HB
    isplitl [Hr1]; · iexact Hr1
    isplitl [Hr2]; · iexact Hr2
    iexact Hr3
  · unfold Inv inRing outRing copies
    unfold arrays
    rw [if_neg (show ¬ (0 + 1 = 0) by decide), if_neg (show ¬ (0 + 1 = 0) by decide), Ring.At3_one' _ _ _ _ 0 rfl (by decide), Ring.AtBΦ_lt _ _ _ _ _ (0 + 1) (by decide), behind_next, behind_early _ 0 (by decide)]
    iintro ⟨⟨Hi1, Hi2, Hx, Hf0, Hr, Hsm, Hum, Hcs, Hcu, Hs, Hu, HW⟩, HX, HA, HB, Hr1, Hr2, Hr3⟩
    isplitl [Hx HX Hi1 Hi2 Hf0 HA HB Hr1 Hr2 Hr3 Hr Hs Hu Hsm Hum Hcs Hcu]
    · isplitl [Hx HX Hi1 Hi2 Hf0]
      · isplitl [Hx HX]
        · isplitl [Hx]; · iexact Hx
          iexact HX
        isplitl [Hi1]; · iexact Hi1
        isplitl [Hi2]; · iexact Hi2
        iexact Hf0
      isplitl [HA HB Hr1 Hr2 Hr3 Hr]
      · isplitl [HA]; · iexact HA
        isplitl [HB]; · iexact HB
        isplitl [Hr1]; · iexact Hr1
        isplitl [Hr2]; · iexact Hr2
        isplitl [Hr3]; · iexact Hr3
        iexact Hr
      isplitl [Hs Hu]
      · isplitl [Hs]; · iexact Hs
        iexact Hu
      isplitl [Hsm]; · iexact Hsm
      isplitl [Hum]; · iexact Hum
      isplitl [Hcs]; · iexact Hcs
      iexact Hcu
    iexact HW

/-- Every point takes what is held before it to what is held before the next. -/
theorem step_any :
    iprop(Inv c W A1 B1 t.val ∗ owes (c : Thread nD τ) 0 W0)
      ⊢ wp frame (wpE (defs₀ (F := F)) Variants.none c none) Set.univ (bodyAt0 t) (fun _ =>
        iprop(Inv c W A1 B1 (t.val + 1) ∗ ∃ W', owes (c : Thread nD τ) 0 W')) := by
  have hN : t.val < 16 := lt_of_lt_of_eq t.isLt N_0
  by_cases h0 : t.val = 0
  · obtain rfl : t = t0_0 := Fin.ext h0
    exact step_first c W A1 B1 W0
  by_cases h4 : t.val < 4
  · exact step_early c W A1 B1 t W0 (by omega) h4
  by_cases h14 : t.val < 14
  · exact step_mid c W A1 B1 t W0 (by omega) (by omega)
  by_cases h15 : t.val = 14
  · exact step_late c W A1 B1 t W0 h15
  · exact step_last c W A1 B1 t W0 (by omega)

end Invariant

end Cert.KernelIdeal.Hand

end
-- ==== Proof.KernelIdealRun.lean ====
/- The kernel's run: from its launch to its end, with what its result array holds then. -/
module

public import proofs.«01_k».proof.Proof.KernelIdealState

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (Pipeline.UD sig nD τ) ℕ

variable (m : (ℓ : Loc nD τ sig) → Buf (Elt F) ℓ) (ρ : Dev nD → PrngReg)

/-! ## What the launch hands the kernel -/

/-- The kernel's semaphores: three for input slots, four for output slots, one each for the slots' and the usage's copies. -/
abbrev osem0 : Fin 9 → SemLoc sig := fun j => (![SemLoc.dma 0, SemLoc.dma 1, SemLoc.dma 2, SemLoc.dma 3, SemLoc.dma 4, SemLoc.dma 5,
  SemLoc.dma 6, SemLoc.dma 7, SemLoc.dma 8] : Fin 9 → SemLoc sig) j
theorem ownSemFacts0 : Pipeline.OwnSemFacts (cfg0.spec) osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = iprop(inC c 0 ∗ inC c 1 ∗ inC c 2 ∗ outC c 0 ∗ outC c 1 ∗ outC c 2 ∗ outC c 3 ∗ cellS c ∗ cellU c) := by
  rw [Pipeline.ownSems0_eq_of_list c osem0 [0, 1, 2, 3, 4, 5, 6, 7, 8] (by decide) (by decide)]; rfl

/-- The arrays it reads, and the one it writes. -/
def H0 : Finset (Ref sig .tc) := {main_v0, main_arg1, main_v1}
def R0 : Finset (Ref sig .tc) := {main_v2}
theorem H0_sub : H0 ⊆ Pipeline.restRefs sig (cfg0.spec) := by decide
theorem R0_sub : R0 ⊆ Pipeline.restRefs sig (cfg0.spec) \ H0 := by decide
theorem reads_eq (c : Dev nD) :
    (bigSep H0 (fun b => ((c : Thread nD τ).loc b) ↦{fullShare} V m c b) : sProp 𝕄)
      = iprop(((c : Thread nD τ).loc main_v0 ↦{fullShare} V m c main_v0) ∗ slotsP c (V m c main_arg1) ∗ usageP c (V m c main_v1)) := by
  rw [BI.bigSep_eq_bigSepL_of_eq [main_v0, main_arg1, main_v1] (by decide) (by decide)]; rfl

/-- Its result array at the end. -/
def result (c : Dev nD) : Buf (Elt F) ((c : Thread nD τ).loc main_v2) := whole c (V m c main_v0) (V m c main_arg1) (V m c main_v1)
/-- The arrays at the end. -/
def G0 (c : Dev nD) (b : Ref sig .tc) : Buf (Elt F) ((c : Thread nD τ).loc b) :=
  if h : b = main_v2 then h ▸ result m c else V m c b
theorem G0_result (c : Dev nD) : G0 m c main_v2 = result m c := by unfold G0; rw [dif_pos rfl]
theorem written_eq (c : Dev nD) (G : (b : Ref sig .tc) → Buf (Elt F) ((c : Thread nD τ).loc b)) :
    (bigSep R0 (fun b => ((c : Thread nD τ).loc b) ↦{fullShare} G b) : sProp 𝕄) = ((c : Thread nD τ).loc main_v2 ↦{fullShare} G main_v2) :=
  BI.bigSep_singleton

/-- What is held before point `p`, of the arrays as the kernel finds them. -/
abbrev InvAt (c : Dev nD) (p : ℕ) : sProp 𝕄 := Inv c (V m c main_v0) (V m c main_arg1) (V m c main_v1) p

theorem y_ahead (c : Dev nD) (g : Buf (Elt F) ((c : Thread nD τ).loc main_v2)) :
    ((c : Thread nD τ).loc main_v2 ↦{fullShare} g : sProp 𝕄) ⊢ bigSep Finset.univ (yAhead c) :=
  (holds_of_eq (y_chunks c g)).trans (BI.bigSep_mono fun b _ => show (yP c b g : sProp 𝕄) ⊢ yAhead c b from by
    unfold yAhead; iintro H; iexists g; iexact H)

theorem enter (c : Dev nD) :
    Pipeline.ΦDRV osem0 (cfg0.spec) H0 R0 (fun c b => V m c b) (fun c b => V m c b) c ⊢ (InvAt m c 0 : sProp 𝕄) := by
  unfold Pipeline.ΦDRV
  rw [scopedRest0_eq, ownSems00_eq, reads_eq, written_eq]
  unfold InvAt Inv inRing outRing copies arrays
  rw [if_pos rfl, if_pos rfl, Ring.AtBΦ_lt _ _ _ _ _ 0 (by decide), Ring.AtB_zero]
  unfold Ring.At₀ Ring.AtB₀
  rw [Ring.bigSep_fin3, Ring.bigSep_fin4]
  unfold Ring.free outFree
  iintro ⟨⟨H0, H1, H2, H3⟩, ⟨Hi0, Hi1, Hi2, Ho0, Ho1, Ho2, Ho3, Hcs, Hcu⟩, ⟨Hx, Hs, Hu⟩, Hy⟩
  ihave Hx' := (holds_of_eq (x_chunks c (V m c main_v0))) $$ Hx
  ihave Hy' := (y_ahead c (V m c main_v2)) $$ Hy
  ihave HI := ((in_split (F := F) c).trans (holds_of_eq (Ring.bigSep_fin3 _))) $$ H0
  ihave HO := ((out_split (F := F) c).trans (holds_of_eq (Ring.bigSep_fin4 _))) $$ H1
  icases HI with ⟨HI0, HI1, HI2⟩
  icases HO with ⟨HO0, HO1, HO2, HO3⟩
  isplitl [Hx' Hi0 HI0 Hi1 HI1 Hi2 HI2]
  · isplitl [Hx']; · iexact Hx'
    isplitl [Hi0 HI0]
    · isplitl [Hi0]; · iexact Hi0
      iexact HI0
    isplitl [Hi1 HI1]
    · isplitl [Hi1]; · iexact Hi1
      iexact HI1
    isplitl [Hi2]; · iexact Hi2
    iexact HI2
  isplitl [Hy' Ho0 HO0 Ho1 HO1 Ho2 HO2 Ho3 HO3]
  · isplitl [Hy']; · iexact Hy'
    isplitl [Ho0 HO0]
    · isplitl [Ho0]; · iexact Ho0
      iexact HO0
    isplitl [Ho1 HO1]
    · isplitl [Ho1]; · iexact Ho1
      iexact HO1
    isplitl [Ho2 HO2]
    · isplitl [Ho2]; · iexact Ho2
      iexact HO2
    isplitl [Ho3]; · iexact Ho3
    iexact HO3
  isplitl [H2 H3]
  · isplitl [H2]; · iexact H2
    iexact H3
  isplitl [Hs]; · iexact Hs
  isplitl [Hu]; · iexact Hu
  isplitl [Hcs]; · iexact Hcs
  iexact Hcu

theorem leave (c : Dev nD) :
    (InvAt m c 16 : sProp 𝕄) ⊢ Pipeline.ΦDRV osem0 (cfg0.spec) H0 R0 (fun c b => V m c b) (G0 m) c := by
  unfold Pipeline.ΦDRV
  rw [scopedRest0_eq, ownSems00_eq, reads_eq, written_eq, G0_result]
  unfold InvAt Inv inRing outRing copies arrays
  rw [if_neg (by decide), if_neg (by decide), Ring.AtBΦ_end _ _ _ _ _ 16 rfl]
  unfold Ring.AtBEnd
  rw [Ring.bigSep_fin4]
  unfold heldS heldU outFree
  iintro ⟨HIn, ⟨HY, ⟨Ho0, %g0, HO0⟩, ⟨Ho1, HO1⟩, ⟨Ho2, HO2⟩, ⟨Ho3, HO3⟩⟩, ⟨⟨%fs, Hs, -⟩, ⟨%fu, Hu, -⟩⟩, Hsm, Hum, Hcs, Hcu⟩
  ihave HIn' := (Ring.free3_of_At_last (xP c (V m c main_v0)) (inC c) (fun s f => inP c s f) (fun s b f => inF c (V m c main_v0) s b f)) $$ HIn
  unfold Ring.free
  icases HIn' with ⟨HX, ⟨Hi0, %f0, HI0⟩, ⟨Hi1, HI1⟩, ⟨Hi2, HI2⟩⟩
  ihave Hx := (holds_of_eq (x_chunks c (V m c main_v0)).symm) $$ HX
  ihave Hy := (show (bigSep Finset.univ (yDone c (V m c main_v0) (V m c main_arg1) (V m c main_v1)) : sProp 𝕄)
      ⊢ ((c : Thread nD τ).loc main_v2 ↦{fullShare} result m c) from
    (BI.bigSep_mono fun b _ => yDone_whole c (V m c main_v0) (V m c main_arg1) (V m c main_v1) b).trans (holds_of_eq (y_chunks c (result m c)).symm)) $$ HY
  isplitl [HI0 HI1 HI2 HO0 HO1 HO2 HO3 Hs Hu]
  · isplitl [HI0 HI1 HI2]
    · iapply ((holds_of_eq (Ring.bigSep_fin3 (fun s : Fin 3 => (iprop(∃ f, inP c s f) : sProp 𝕄))).symm).trans (in_join c f0))
      isplitl [HI0]; · iexists f0; iexact HI0
      isplitl [HI1]; · iexact HI1
      iexact HI2
    isplitl [HO0 HO1 HO2 HO3]
    · iapply ((holds_of_eq (Ring.bigSep_fin4 (fun s : Fin 4 => (iprop(∃ f, outP c s f) : sProp 𝕄))).symm).trans (out_join c g0))
      isplitl [HO0]; · iexists g0; iexact HO0
      isplitl [HO1]; · iexact HO1
      isplitl [HO2]; · iexact HO2
      iexact HO3
    isplitl [Hs]; · iexists fs; iexact Hs
    iexists fu; iexact Hu
  isplitl [Hi0 Hi1 Hi2 Ho0 Ho1 Ho2 Ho3 Hcs Hcu]
  · isplitl [Hi0]; · iexact Hi0
    isplitl [Hi1]; · iexact Hi1
    isplitl [Hi2]; · iexact Hi2
    isplitl [Ho0]; · iexact Ho0
    isplitl [Ho1]; · iexact Ho1
    isplitl [Ho2]; · iexact Ho2
    isplitl [Ho3]; · iexact Ho3
    isplitl [Hcs]; · iexact Hcs
    iexact Hcu
  isplitl [Hx Hsm Hum]
  · isplitl [Hx]; · iexact Hx
    isplitl [Hsm]; · iexact Hsm
    iexact Hum
  iexact Hy

/-! ## The kernel's grid -/

def dats (_ : Fin 1) (c : Dev nD) : Dat τ (Elt F) Unit ℕ (Pipeline.UD sig nD τ) ℕ cfg0 c where
  A w := w.elim0
  after w _ := w.elim0
  Φ p := InvAt m c p.val
  q _ := fullShare
  owed _ := 0

theorem no_windows (Φ : Fin cfg0.W → sProp 𝕄) : bigSep Finset.univ Φ = BI.emp := by
  rw [show (Finset.univ : Finset (Fin cfg0.W)) = ∅ from rfl, BI.bigSep_empty]

theorem sound_body (c : Dev nD) (t : Fin cfg0.N) :
    iprop((dats m 0 c).Φ t.castSucc ∗ (dats m 0 c).owesAt () t.castSucc ∗ BI.emp)
      ⊢ wp frame (wpE (defs₀ (F := F)) Variants.none c none) Set.univ (bodyAt0 t)
        (fun _ => iprop((dats m 0 c).Φ t.succ ∗ (dats m 0 c).owesAt () t.succ ∗ BI.emp)) := by
  unfold Dat.owesAt Pipeline.owesWithin
  rw [show (dats m 0 c).owed t.castSucc = 0 from rfl, show (dats m 0 c).owed t.succ = 0 from rfl,
    show (dats m 0 c).Φ t.castSucc = InvAt m c t.val from rfl, show (dats m 0 c).Φ t.succ = InvAt m c (t.val + 1) from rfl]
  iintro ⟨H, ⟨%W, -, HW⟩, He⟩
  iapply (set_aside c (step_any c (V m c main_v0) (V m c main_arg1) (V m c main_v1) t W) (R := BI.emp)
    (X := iprop((InvAt m c t.val ∗ owes (c : Thread nD τ) 0 W) ∗ BI.emp)) .rfl (by
      iintro ⟨⟨H, %W', HW'⟩, He⟩
      isplitl [H]; · iexact H
      isplitl [HW']
      · iexists W'; isplitr; · ipureintro; exact fun _ _ => Or.inl trivial
        iexact HW'
      iexact He))
  isplitl [H HW]
  · isplitl [H]; · iexact H
    iexact HW
  iexact He

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [no_windows, no_windows, defs₀_row]
  exact sound_body m c t

/-! ## The run -/

set_option maxHeartbeats 800000 in
theorem main_around : Pipeline.HMainK (Ix := Unit) (Name := ℕ) (U := Pipeline.UD sig nD τ) (Lvl := ℕ) cfgs 0 defs₀ Variants.none m (main (F := F)) (V m)
      (fun _ => Pipeline.chain ([hostOps1].map StableHlo.seq)) :=
  Pipeline.hmain_around cfgs 0 defs₀ Variants.none m main [hostOps0] [hostOps1] (by simp only [List.Forall]; exact hostOps0_sub)
    (by simp only [List.Forall]; exact hostOps0_fresh) main_chain

/-- The arrays after the host's last reshape. -/
abbrev atEnd (c : Dev nD) : Valuation τ sig (Elt F) :=
  StableHlo.after (List.flatten [hostOps1])
    (Pipeline.withArrays (cfg0.spec) c (Pipeline.withR (V0 m c) R0 c (G0 m c)) fun w => (dats m 0 c).arrAt w cfg0.N)

set_option backward.isDefEq.respectTransparency.types false in
/-- Every array ends as `atEnd` says, and every semaphore at zero. -/
theorem run_main : θ_run defs (onTc (τ := τ) (main (F := F))) (s₀ m ρ) (fun r => (∀ c : Dev nD, ∀ b ∈ Pipeline.restRefs sig (cfg0.spec),
      r.2.mem ((c.tc : Thread nD τ).loc b) = atEnd m c (Proc.devRef .tc b)) ∧ r.2.sem = fun _ => 0) :=
  Pipeline.θ_run_frame_dmaR_aroundV cfgs (dats m) (0 : Fin 1) launch0 osem0 defs₀ Variants.none ownSemFacts0 H0 R0 H0_sub R0_sub m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps) (G := G0 m)
    (hmain := main_around m) (hA := fun c w => w.elim0)
    (hin := fun c => enter m c) (hout := fun c => leave m c) (Q' := _) (hQ' := fun r h => ⟨fun c => (h.1 c).2, h.2⟩)

theorem end_arg0 (c : Dev nD) : atEnd m c (Proc.devRef .tc main_arg0) = m ((c : Thread nD τ).loc main_arg0) := by
  unfold atEnd
  rw [StableHlo.after_of_forall_not_mem (b := Proc.devRef .tc main_arg0) _ _ (List.forall_iff_forall_mem.mp (by
      simp only [hostOps1, List.flatten_cons, List.flatten_nil, List.append_nil, List.cons_append, List.nil_append, List.Forall,
        StableHlo.reshape_writes, Finset.mem_singleton]
      all_goals exact StableHlo.devRef_ne_of_ne (by decide))),
    Pipeline.withArrays_of_ne _ c _ _ main_arg0 (by exact (by decide : ∀ w, Pipeline.arrRef (cfg0.spec) w ≠ main_arg0)),
    Pipeline.withR_of_not_mem _ _ _ _ _ (by decide)]
  exact V_main_arg0 m c
theorem end_arg1 (c : Dev nD) : atEnd m c (Proc.devRef .tc main_arg1) = m ((c : Thread nD τ).loc main_arg1) := by
  unfold atEnd
  rw [StableHlo.after_of_forall_not_mem (b := Proc.devRef .tc main_arg1) _ _ (List.forall_iff_forall_mem.mp (by
      simp only [hostOps1, List.flatten_cons, List.flatten_nil, List.append_nil, List.cons_append, List.nil_append, List.Forall,
        StableHlo.reshape_writes, Finset.mem_singleton]
      all_goals exact StableHlo.devRef_ne_of_ne (by decide))),
    Pipeline.withArrays_of_ne _ c _ _ main_arg1 (by exact (by decide : ∀ w, Pipeline.arrRef (cfg0.spec) w ≠ main_arg1)),
    Pipeline.withR_of_not_mem _ _ _ _ _ (by decide)]
  exact V_main_arg1 m c
theorem end_arg2 (c : Dev nD) : atEnd m c (Proc.devRef .tc main_arg2) = m ((c : Thread nD τ).loc main_arg2) := by
  unfold atEnd
  rw [StableHlo.after_of_forall_not_mem (b := Proc.devRef .tc main_arg2) _ _ (List.forall_iff_forall_mem.mp (by
      simp only [hostOps1, List.flatten_cons, List.flatten_nil, List.append_nil, List.cons_append, List.nil_append, List.Forall,
        StableHlo.reshape_writes, Finset.mem_singleton]
      all_goals exact StableHlo.devRef_ne_of_ne (by decide))),
    Pipeline.withArrays_of_ne _ c _ _ main_arg2 (by exact (by decide : ∀ w, Pipeline.arrRef (cfg0.spec) w ≠ main_arg2)),
    Pipeline.withR_of_not_mem _ _ _ _ _ (by decide)]
  exact V_main_arg2 m c

/-- The program's result: the kernel's, in the shape of the rows it was given. -/
theorem end_result (c : Dev nD) : atEnd m c (Proc.devRef .tc main_v3)
    = shapeCast S4x8192x1024 (result m c : FVec F S32768x1024 .f32) shapeCasts_S32768x1024_S4x8192x1024 := by
  have e : (Pipeline.withArrays (cfg0.spec) c (Pipeline.withR (V0 m c) R0 c (G0 m c)) fun w => (dats m 0 c).arrAt w cfg0.N) (Proc.devRef .tc main_v2)
      = result m c := by
    rw [Pipeline.withArrays_of_ne _ c _ _ main_v2 (by exact (by decide : ∀ w, Pipeline.arrRef (cfg0.spec) w ≠ main_v2)),
      Pipeline.withR_of_mem _ _ _ _ _ (by decide)]
    exact G0_result m c
  rw [← e]; rfl

/-- The program runs, ends with `result` in the shape of its rows, its arguments unchanged and every semaphore at zero. -/
theorem runs : θ_run defs (onTc (τ := τ) (main (F := F))) ⟨m, fun _ => 0, ρ⟩ (fun r => (∀ c : Dev nD,
      r.2.mem ((c.tc : Thread nD τ).loc main_v3) = shapeCast S4x8192x1024 (result m c : FVec F S32768x1024 .f32) shapeCasts_S32768x1024_S4x8192x1024
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) ∧ r.2.sem = fun _ => 0) :=
  (θ_run defs _ _).mono (fun _ h => ⟨fun c =>
    ⟨(h.1 c main_v3 (Pipeline.mem_restRefs_of main_v3 (by decide) (by decide))).trans (end_result m c),
      (h.1 c main_arg0 (Pipeline.mem_restRefs_of main_arg0 (by decide) (by decide))).trans (end_arg0 m c),
      (h.1 c main_arg1 (Pipeline.mem_restRefs_of main_arg1 (by decide) (by decide))).trans (end_arg1 m c),
      (h.1 c main_arg2 (Pipeline.mem_restRefs_of main_arg2 (by decide) (by decide))).trans (end_arg2 m c)⟩, h.2⟩) (run_main m ρ)
end Cert.KernelIdeal.Hand

end
-- ==== Proof.Frames.lean ====
/-
  The three frames and the two named constants.

  Each kernel frame is the run of Proof/KernelRun.lean or Proof/KernelIdealRun.lean with the value forgotten. The
  reference is host code alone: its generated run keeps the arguments, and it has no semaphores.
-/
module

public import proofs.«01_k».proof.Defs
public import proofs.«01_k».proof.Proof.KernelRun
public import proofs.«01_k».proof.Proof.KernelIdealRun
public import proofs.«01_k».proof.Proof.Gen.ReferenceIdeal.Run
public import Idealize.ShloMosaic.Lib.Quiescent

@[expose] public section

noncomputable section

open Idealize.ShloMosaic Idealize.ShloMosaic.TcCoe Idealize.SL.Sem

namespace Cert.Proof

theorem frame_p : Cert.quiescent_Kernel := fun m ρ _ =>
  (θ_run Cert.Kernel.defs _ _).mono (fun _ h => ⟨fun c => (h.1 c).2, h.2⟩) (Cert.Kernel.Hand.runs (F := Bits) m ρ)

theorem frame_pi : Cert.quiescent_KernelIdeal := fun m ρ _ =>
  (θ_run Cert.KernelIdeal.defs _ _).mono (fun _ h => ⟨fun c => (h.1 c).2, h.2⟩)
    (Cert.KernelIdeal.Hand.runs (F := Ideal) m ρ)

theorem frame_ri : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- The table gives the two named constants their values, and each named constant is that value over the reals. -/
theorem preserves : Cert.preserves_Kernel_KernelIdeal :=
  ⟨IdealRules.named_const.statement Cert.KernelIdeal.κ "eps_sq" .f32 0x179ABE15#32
      ((5316911940649 / 5316911983139663491615228241121378304 : ℝ) : EReal) rfl,
    IdealRules.named_const.statement Cert.KernelIdeal.κ "inv_temperature" .f32 0x4036DB6E#32
      ((33554432 / 11744051 : ℝ) : EReal) rfl⟩

end Cert.Proof

end
-- ==== Proof.Consts.lean ====
/-
  The reference's three float words as extended reals: the words of 1e-12 and 0.35, and minus infinity, from which
  its softmax starts the maximum. The kernel's two named constants are the square of the first and the reciprocal
  of the second.
-/
module

public import proofs.«01_k».proof.KernelIdeal
public import Idealize.ShloMosaic.PureOps.Ideal
public import Idealize.ShloMosaic.PureOps.IdealRules

@[expose] public section

noncomputable section

namespace Cert.Consts

open Idealize.ShloMosaic

/-- The f32 word of 1e-12. -/
def ε : ℝ := 9223372 / 9223372036854775808
/-- The f32 word of 0.35. -/
def τ : ℝ := 11744051 / 33554432

theorem ε_pos : 0 < ε := by norm_num [ε]
theorem τ_pos : 0 < τ := by norm_num [τ]

theorem ofBits_ε : Ideal.ofBits .f32 0x2B8CBCCC#32 = (ε : EReal) := by
  simp [Ideal.ofBits, Ideal.ieee, -EReal.coe_mul, ε]; norm_num

theorem ofBits_τ : Ideal.ofBits .f32 0x3EB33333#32 = (τ : EReal) := by
  simp [Ideal.ofBits, Ideal.ieee, -EReal.coe_mul, τ]; norm_num

theorem ofBits_bot : Ideal.ofBits .f32 0xFF800000#32 = (⊥ : EReal) := by
  simp [Ideal.ofBits, Ideal.ieee]

theorem named_eps_sq : Named.named (F := Ideal) Cert.KernelIdeal.κ "eps_sq" (φ := .f32) 0x179ABE15#32 = ((ε ^ 2 : ℝ) : EReal) :=
  (IdealRules.named_const.ideal_named_scalar _ _ _ _ rfl).trans
    (congrArg _ (show (5316911940649 / 5316911983139663491615228241121378304 : ℝ) = ε ^ 2 by norm_num [ε]))

theorem named_inv_temperature :
    Named.named (F := Ideal) Cert.KernelIdeal.κ "inv_temperature" (φ := .f32) 0x4036DB6E#32 = ((τ⁻¹ : ℝ) : EReal) :=
  (IdealRules.named_const.ideal_named_scalar _ _ _ _ rfl).trans
    (congrArg _ (show (33554432 / 11744051 : ℝ) = τ⁻¹ by norm_num [τ]))

end Cert.Consts

end
-- ==== Proof.Formula.lean ====
/-
  The arithmetic of one row, on the extended reals.

  A row divided by the larger of its norm and ε is a row of reals, whatever the row holds: where an entry is
  infinite the norm is ⊤ and every quotient is 0. So every score is a real, the exponentials of the scores are
  positive reals, and dividing them by their sum gives the same weights whether or not the largest score was
  subtracted first.
-/
module

public import Idealize.ShloMosaic.PureOps.Ideal
public import Mathlib.Data.Finset.Fold

@[expose] public section

noncomputable section

namespace Cert.Formula

open Idealize.ShloMosaic
open scoped BigOperators

variable {ι κ : Type} [Fintype ι] [Fintype κ]

/-- A sum of reals taken over the extended reals is the real sum. -/
theorem coe_sum {s : Finset ι} (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

theorem coe_max (a b : ℝ) : max (a : EReal) (b : EReal) = ((max a b : ℝ) : EReal) :=
  (EReal.coe_strictMono.monotone.map_max).symm

theorem mul_self_nonneg (a : EReal) : 0 ≤ a * a := by
  induction a with
  | bot => simp
  | top => simp
  | coe r => exact_mod_cast _root_.mul_self_nonneg r

/-- A row is a row of reals, or its sum of squares is ⊤. -/
theorem row_cases (v : ι → EReal) : (∃ u : ι → ℝ, v = fun i => (u i : EReal)) ∨ ∑ i, v i * v i = ⊤ := by
  by_cases h : ∀ i, v i ≠ ⊤ ∧ v i ≠ ⊥
  · exact .inl ⟨fun i => (v i).toReal, funext fun i => (EReal.coe_toReal (h i).1 (h i).2).symm⟩
  · refine .inr ?_
    obtain ⟨i, hi⟩ := not_forall.mp h
    have ht : v i * v i = ⊤ := by
      by_cases h1 : v i = ⊤
      · rw [h1]; exact EReal.top_mul_top
      · have h2 : v i = ⊥ := by
          by_contra h2
          exact hi ⟨h1, h2⟩
        rw [h2]; exact EReal.bot_mul_bot
    exact top_le_iff.mp (ht ▸ Finset.single_le_sum (f := fun i => v i * v i) (fun j _ => mul_self_nonneg (v j)) (Finset.mem_univ i))

/-- The root of the larger of a real and ε² is the larger of its root and ε. -/
theorem sqrt_max_sq {ε : ℝ} (hε : 0 < ε) (N : ℝ) : Real.sqrt (max N (ε ^ 2)) = max (Real.sqrt N) ε := by
  rw [(show Monotone Real.sqrt from fun _ _ h => Real.sqrt_le_sqrt h).map_max, Real.sqrt_sq hε.le]

/-- The reciprocal root, and the quotient by the norm, of a row that is not a row of reals. -/
theorem top_row {ε : ℝ} {n : EReal} (hn : n = ⊤) :
    Ideal.rsqrt (max n ((ε ^ 2 : ℝ) : EReal)) = 0 ∧ ∀ a : EReal, Ideal.div a (max (Ideal.sqrt n) (ε : EReal)) = 0 := by
  subst hn
  rw [Ideal.sqrt_top, max_eq_left le_top, max_eq_left le_top, Ideal.rsqrt_top]
  exact ⟨rfl, fun a => by simp [Ideal.div]⟩

/-- The reciprocal root, and the quotient by the norm, of a row of reals. -/
theorem real_row {ε : ℝ} (hε : 0 < ε) (u : ι → ℝ) :
    ∃ r : ℝ, Ideal.rsqrt (max (∑ i, (u i : EReal) * (u i : EReal)) ((ε ^ 2 : ℝ) : EReal)) = (r : EReal)
      ∧ ∀ a : ℝ, Ideal.div (a : EReal) (max (Ideal.sqrt (∑ i, (u i : EReal) * (u i : EReal))) (ε : EReal)) = ((a * r : ℝ) : EReal) := by
  have hN : ∑ i, (u i : EReal) * (u i : EReal) = ((∑ i, u i * u i : ℝ) : EReal) := by
    rw [← coe_sum]; exact Finset.sum_congr rfl fun i _ => (EReal.coe_mul _ _).symm
  have h0 : 0 ≤ ∑ i, u i * u i := Finset.sum_nonneg fun i _ => _root_.mul_self_nonneg _
  rw [hN]
  generalize ∑ i, u i * u i = N at h0
  have hp : 0 < max N (ε ^ 2) := lt_max_of_lt_right (by positivity)
  have hq : 0 < max (Real.sqrt N) ε := lt_max_of_lt_right hε
  refine ⟨(max (Real.sqrt N) ε)⁻¹, ?_, fun a => ?_⟩
  · rw [coe_max, Ideal.rsqrt_coe, if_neg hp.not_gt, if_neg hp.ne', sqrt_max_sq hε]
  · rw [Ideal.sqrt_coe, if_neg h0.not_gt, coe_max, Ideal.div_coe hq.ne', one_div, ← EReal.coe_mul]

/-- A row normalised through the reciprocal root, or divided by its norm, is one and the same row of reals. -/
theorem unit_row {ε : ℝ} (hε : 0 < ε) (v : ι → EReal) :
    ∃ w : ι → ℝ, ∀ i, v i * Ideal.rsqrt (max (∑ j, v j * v j) ((ε ^ 2 : ℝ) : EReal)) = (w i : EReal)
      ∧ Ideal.div (v i) (max (Ideal.sqrt (∑ j, v j * v j)) (ε : EReal)) = (w i : EReal) := by
  obtain ⟨u, rfl⟩ | ht := row_cases v
  · obtain ⟨r, h1, h2⟩ := real_row hε u
    exact ⟨fun i => u i * r, fun i => ⟨by rw [h1, EReal.coe_mul], h2 (u i)⟩⟩
  · obtain ⟨h1, h2⟩ := top_row (ε := ε) ht
    exact ⟨fun _ => 0, fun i => ⟨by rw [h1, mul_zero, EReal.coe_zero], by rw [h2, EReal.coe_zero]⟩⟩

/-- The kernel's score: the row is scaled after the product, by its reciprocal root times 1/τ. -/
def kScore (ε τ : ℝ) (x s : ι → EReal) : EReal :=
  (∑ i, x i * (s i * Ideal.rsqrt (max (∑ j, s j * s j) ((ε ^ 2 : ℝ) : EReal))))
    * (Ideal.rsqrt (max (∑ j, x j * x j) ((ε ^ 2 : ℝ) : EReal)) * ((τ⁻¹ : ℝ) : EReal))

/-- The reference's score: both rows are divided by their norms, and the product by τ. -/
def rScore (ε τ : ℝ) (x s : ι → EReal) : EReal :=
  Ideal.div (∑ i, Ideal.div (x i) (max (Ideal.sqrt (∑ j, x j * x j)) (ε : EReal))
      * Ideal.div (s i) (max (Ideal.sqrt (∑ j, s j * s j)) (ε : EReal))) (τ : EReal)

/-- The two scores are one real. -/
theorem score_eq {ε τ : ℝ} (hε : 0 < ε) (hτ : 0 < τ) (x s : ι → EReal) :
    ∃ r : ℝ, kScore ε τ x s = (r : EReal) ∧ rScore ε τ x s = (r : EReal) := by
  obtain ⟨w, hw⟩ := unit_row hε s
  simp only [kScore, rScore, (hw _).1, (hw _).2]
  obtain ⟨u, rfl⟩ | ht := row_cases x
  · obtain ⟨r, h1, h2⟩ := real_row hε u
    refine ⟨(∑ i, u i * w i) * (r * τ⁻¹), ?_, ?_⟩
    · simp only [h1]
      simp only [← EReal.coe_mul, coe_sum]
    · simp only [h2]
      simp only [← EReal.coe_mul, coe_sum, Ideal.div_coe hτ.ne', one_div]
      congr 1
      rw [Finset.sum_mul, Finset.sum_mul]
      exact Finset.sum_congr rfl fun i _ => by ring
  · obtain ⟨h1, h2⟩ := top_row (ε := ε) ht
    refine ⟨0, ?_, ?_⟩
    · rw [h1, zero_mul, mul_zero, EReal.coe_zero]
    · simp only [h2, zero_mul, Finset.sum_const_zero, Ideal.div_coe hτ.ne', EReal.coe_zero]

/-- The largest of some reals, the maximum started at minus infinity, is a real. -/
theorem real_max [Nonempty κ] (r : κ → ℝ) :
    ∃ M : ℝ, max (⊥ : EReal) (Finset.univ.fold max (⊥ : EReal) fun k => (r k : EReal)) = (M : EReal) := by
  have h1 : Finset.univ.fold max (⊥ : EReal) (fun k => (r k : EReal)) ≠ ⊤ :=
    ((Finset.fold_max_lt _).mpr ⟨bot_lt_top, fun k _ => EReal.coe_lt_top _⟩).ne
  have h2 : Finset.univ.fold max (⊥ : EReal) (fun k => (r k : EReal)) ≠ ⊥ :=
    ((Finset.lt_fold_max _).mpr (.inr ⟨Classical.arbitrary κ, Finset.mem_univ _, EReal.bot_lt_coe _⟩)).ne'
  exact ⟨_, (max_eq_right bot_le).trans (EReal.coe_toReal h1 h2).symm⟩

/-- Softmax weights are the same with a real subtracted from every score. -/
theorem weight_eq [Nonempty κ] (r : κ → ℝ) (M : ℝ) (k : κ) :
    Ideal.div (Ideal.exp (r k : EReal)) (∑ j, Ideal.exp (r j : EReal))
      = Ideal.div (Ideal.exp ((r k : EReal) - (M : EReal))) (∑ j, Ideal.exp ((r j : EReal) - (M : EReal))) := by
  have hp : ∀ f : κ → ℝ, 0 < ∑ j, Real.exp (f j) := fun f =>
    Finset.sum_pos (fun j _ => Real.exp_pos _) Finset.univ_nonempty
  simp only [← EReal.coe_sub, Ideal.exp_coe, coe_sum]
  rw [Ideal.div_coe (hp r).ne', Ideal.div_coe (hp fun j => r j - M).ne', ← EReal.coe_mul, ← EReal.coe_mul]
  congr 1
  simp only [Real.exp_sub, ← Finset.sum_div]
  have := (hp r).ne'
  have := (Real.exp_pos M).ne'
  field_simp

/-- The kernel's result: the weights of its scores, and the gate as a factor. -/
def kOut (ε τ : ℝ) (x : ι → EReal) (s : κ → ι → EReal) (g : BitVec 1) (d : ι) : EReal :=
  (∑ k, Ideal.div (Ideal.exp (kScore ε τ x (s k))) (∑ j, Ideal.exp (kScore ε τ x (s j))) * s k d)
    * (((Scalar.extui g : BitVec 32).toInt : ℝ) : EReal)

/-- The reference's result: the weights of its scores less the largest. -/
def rOut (ε τ : ℝ) (x : ι → EReal) (s : κ → ι → EReal) (d : ι) : EReal :=
  ∑ k, Ideal.div
      (Ideal.exp (rScore ε τ x (s k) - max (⊥ : EReal) (Finset.univ.fold max (⊥ : EReal) fun j => rScore ε τ x (s j))))
      (∑ i, Ideal.exp (rScore ε τ x (s i) - max (⊥ : EReal) (Finset.univ.fold max (⊥ : EReal) fun j => rScore ε τ x (s j))))
    * s k d

/-- Kernel and reference are one function of a row, the slots and the gate. -/
theorem out_eq [Nonempty κ] {ε τ : ℝ} (hε : 0 < ε) (hτ : 0 < τ) (x : ι → EReal) (s : κ → ι → EReal) (P : Prop)
    [Decidable P] (d : ι) :
    kOut ε τ x s (BitVec.ofBool (decide P)) d = if P then rOut ε τ x s d else 0 := by
  choose r hk hr using fun k => score_eq hε hτ x (s k)
  obtain ⟨M, hM⟩ := real_max r
  have h : (∑ k, Ideal.div (Ideal.exp (kScore ε τ x (s k))) (∑ j, Ideal.exp (kScore ε τ x (s j))) * s k d)
      = rOut ε τ x s d := by
    simp only [rOut, hk, hr, hM]
    exact Finset.sum_congr rfl fun k _ => by rw [weight_eq r M k]
  rw [kOut, h]
  by_cases hP : P
  · have e : (((Scalar.extui (BitVec.ofBool (decide P)) : BitVec 32).toInt : ℝ) : EReal) = 1 := by
      rw [decide_eq_true hP]
      have : (Scalar.extui (BitVec.ofBool true) : BitVec 32).toInt = 1 := by decide
      rw [this]; simp
    rw [e, mul_one, if_pos hP]
  · have e : (((Scalar.extui (BitVec.ofBool (decide P)) : BitVec 32).toInt : ℝ) : EReal) = 0 := by
      rw [decide_eq_false hP]
      have : (Scalar.extui (BitVec.ofBool false) : BitVec 32).toInt = 0 := by decide
      rw [this]; simp
    rw [e, mul_zero, if_neg hP]

end Cert.Formula

end
-- ==== Proof.KernelValue.lean ====
/-
  What the kernel's result holds, over the reals: row r of the flattened rows, column d, is the softmax-weighted sum
  of the slots that Proof/Formula.lean calls `kOut`.
-/
module

public import proofs.«01_k».proof.Proof.KernelIdealRun
public import proofs.«01_k».proof.Proof.Consts
public import proofs.«01_k».proof.Proof.Formula
public import Idealize.ShloMosaic.Lib.Pointwise

@[expose] public section

noncomputable section

open Idealize.ShloMosaic Idealize.ShloMosaic.TcCoe Idealize.SL.Sem

namespace Cert.KernelIdeal.Hand

open Cert.KernelIdeal Cert.KernelIdeal.Gen Cert.Formula Cert.Consts

/-- A chunk of the result at an index: the row's softmax over the slots, times the gate. -/
theorem outBlock_apply (x : FVec Ideal S2048x1024 .f32) (sl : FVec Ideal S32x1024 .f32) (us : FVec Ideal S1x32 .f32)
    (p : Fin 2048) (d : Fin 1024) :
    outBlock (F := Ideal) x sl us (ix2 p d)
      = kOut ε Consts.τ (fun j : Fin 1024 => x (ix2 p j)) (fun (k : Fin 32) j => sl (ix2 k j))
          (BitVec.ofBool (decide (0 < ∑ k : Fin 32, us (ix2 0 k)))) d := by
  pointwise [outBlock, k0_pay2, k0_pay3]
  rw [named_eps_sq, named_inv_temperature]
  simp only [kOut, kScore, Finset.univ_unique, Finset.sum_singleton]

variable (c : Dev nD)

/-- Row r is row r % 2048 of chunk r / 2048. -/
theorem read_row (W : FVec Ideal S32768x1024 .f32) (r : Fin 32768) (d j : Fin 1024) :
    (xBlk (chunkOf (ix2 r d))).view.read (Elt Ideal) W
      (ix2 (inChunk (ix2 r d) 0) j) = W (ix2 r j) := by
  refine congrArg W (funext fun a => Fin.ext ?_)
  match a with
  | ⟨0, _⟩ =>
    show 2048 * (r.val / 2048) + 1 * (r.val % 2048) = r.val
    omega
  | ⟨1, _⟩ => show 0 + 1 * j.val = j.val; omega

theorem inChunk_eq (r : Fin 32768) (d : Fin 1024) : inChunk (ix2 r d) = ix2 (inChunk (ix2 r d) 0) d := by
  funext a
  match a with
  | ⟨0, _⟩ => rfl
  | ⟨1, _⟩ => rfl

/-- The kernel's array at an index. -/
theorem whole_apply (W : FVec Ideal S32768x1024 .f32) (A1 : FVec Ideal S32x1024 .f32) (B1 : FVec Ideal S1x32 .f32)
    (r : Fin 32768) (d : Fin 1024) :
    (whole (F := Ideal) c W A1 B1 : FVec Ideal S32768x1024 .f32) (ix2 r d)
      = kOut ε Consts.τ (fun j : Fin 1024 => W (ix2 r j)) (fun (k : Fin 32) j => A1 (ix2 k j))
          (BitVec.ofBool (decide (0 < ∑ k : Fin 32, B1 (ix2 0 k)))) d := by
  have eS : slotsM.view.read (Elt Ideal) (A1 : Buf (Elt Ideal) ((c : Thread nD τ).loc main_arg1)) = A1 := rfl
  have eU : usageM.view.read (Elt Ideal) (B1 : Buf (Elt Ideal) ((c : Thread nD τ).loc main_v1)) = B1 := rfl
  unfold whole res
  rw [eS, eU, inChunk_eq r d]
  refine (outBlock_apply _ A1 B1 (inChunk (ix2 r d) 0) d).trans ?_
  exact congrArg (fun f : Fin 1024 → EReal => kOut ε Consts.τ f (fun (k : Fin 32) j => A1 (ix2 k j))
    (BitVec.ofBool (decide (0 < ∑ k : Fin 32, B1 (ix2 0 k)))) d) (funext fun j => read_row W r d j)

/-- The host flattens the rows before the kernel, and puts them back in shape after it. -/
theorem rows_apply (X : FVec Ideal S4x8192x1024 .f32) (b : Fin 4) (l : Fin 8192) (j : Fin 1024) (h) :
    shapeCast S32768x1024 X shapeCasts_S4x8192x1024_S32768x1024 (ix2 ⟨8192 * b.val + l.val, h⟩ j) = X (ix3 b l j) :=
  congrArg X (Shape.reshapeEquiv_eq_of_vals _ _ _ _ _ (rowMajor_val3 _ 8388608 1024 rfl rfl) (rowMajor_val2 _ 1024 rfl)
    (by show b.val * 8388608 + l.val * 1024 + j.val = (8192 * b.val + l.val) * 1024 + j.val; omega))

theorem out_apply (R : FVec Ideal S32768x1024 .f32) (b : Fin 4) (l : Fin 8192) (j : Fin 1024) (h) :
    shapeCast S4x8192x1024 R shapeCasts_S32768x1024_S4x8192x1024 (ix3 b l j) = R (ix2 ⟨8192 * b.val + l.val, h⟩ j) :=
  congrArg R (Shape.reshapeEquiv_eq_of_vals _ _ _ _ _ (rowMajor_val2 _ 1024 rfl) (rowMajor_val3 _ 8388608 1024 rfl rfl)
    (by show (8192 * b.val + l.val) * 1024 + j.val = b.val * 8388608 + l.val * 1024 + j.val; omega))

/-- The host gives the usage a leading axis. -/
theorem usage_apply (U : FVec Ideal S32 .f32) (k : Fin 32) : shapeCast S1x32 U shapeCasts_S32_S1x32 (ix2 0 k) = U (ix1 k) := by
  pointwise

variable (m : (ℓ : Loc nD τ sig) → Buf (Elt Ideal) ℓ)

/-- The array the kernel leaves, of the arguments. -/
theorem result_eq (X : FVec Ideal S4x8192x1024 .f32) (SL : FVec Ideal S32x1024 .f32) (U : FVec Ideal S32 .f32)
    (h0 : m ((c : Thread nD τ).loc main_arg0) = X) (h1 : m ((c : Thread nD τ).loc main_arg1) = SL)
    (h2 : m ((c : Thread nD τ).loc main_arg2) = U) :
    result m c = whole (F := Ideal) c (shapeCast S32768x1024 X shapeCasts_S4x8192x1024_S32768x1024) SL
      (shapeCast S1x32 U shapeCasts_S32_S1x32) := by
  have e0 : V m c main_v0 = shapeCast S32768x1024 (m ((c : Thread nD τ).loc main_arg0) : FVec Ideal S4x8192x1024 .f32)
    shapeCasts_S4x8192x1024_S32768x1024 := rfl
  have e2 : V m c main_v1 = shapeCast S1x32 (m ((c : Thread nD τ).loc main_arg2) : FVec Ideal S32 .f32)
    shapeCasts_S32_S1x32 := rfl
  unfold result
  rw [e0, e2, V_main_arg1 m c, h0, h1, h2]

/-- The program's result at an index, of its arguments. -/
theorem value (X : FVec Ideal S4x8192x1024 .f32) (SL : FVec Ideal S32x1024 .f32) (U : FVec Ideal S32 .f32)
    (h0 : m ((c : Thread nD τ).loc main_arg0) = X) (h1 : m ((c : Thread nD τ).loc main_arg1) = SL)
    (h2 : m ((c : Thread nD τ).loc main_arg2) = U) (b : Fin 4) (l : Fin 8192) (d : Fin 1024) :
    shapeCast S4x8192x1024 (result m c : FVec Ideal S32768x1024 .f32) shapeCasts_S32768x1024_S4x8192x1024 (ix3 b l d)
      = kOut ε Consts.τ (fun j : Fin 1024 => X (ix3 b l j)) (fun (k : Fin 32) j => SL (ix2 k j))
          (BitVec.ofBool (decide (0 < ∑ k : Fin 32, U (ix1 k)))) d := by
  have h : 8192 * b.val + l.val < 32768 := by have := b.isLt; have := l.isLt; omega
  rw [result_eq c m X SL U h0 h1 h2, out_apply _ b l d h, whole_apply]
  have eX : (fun j : Fin 1024 => shapeCast S32768x1024 X shapeCasts_S4x8192x1024_S32768x1024 (ix2 ⟨8192 * b.val + l.val, h⟩ j))
      = fun j => X (ix3 b l j) := funext fun j => rows_apply X b l j h
  have eU : (fun k : Fin 32 => shapeCast S1x32 U shapeCasts_S32_S1x32 (ix2 0 k)) = fun k => U (ix1 k) :=
    funext fun k => usage_apply U k
  exact congrArg₂ (fun (f : Fin 1024 → EReal) (u : Fin 32 → EReal) => kOut ε Consts.τ f (fun (k : Fin 32) j => SL (ix2 k j))
    (BitVec.ofBool (decide (0 < ∑ k : Fin 32, u k))) d) eX eU

end Cert.KernelIdeal.Hand

end
-- ==== Proof.ReferenceValue.lean ====
/-
  What the reference's result holds, over the reals: at each index the sum that Proof/Formula.lean calls `rOut`, or
  zero where the usage does not sum to more than zero.
-/
module

public import proofs.«01_k».proof.Proof.Gen.ReferenceIdeal.Run
public import proofs.«01_k».proof.Proof.Consts
public import proofs.«01_k».proof.Proof.Formula
public import Idealize.ShloMosaic.Lib.Pointwise

@[expose] public section

noncomputable section

open Idealize.ShloMosaic Idealize.ShloMosaic.TcCoe Idealize.SL.Sem

namespace Cert.ReferenceIdeal.Hand

open Cert.ReferenceIdeal Cert.ReferenceIdeal.Gen Cert.ReferenceIdeal.Value Cert.Formula Cert.Consts

variable (m : (ℓ : Loc nD τ sig) → Buf (Elt Ideal) ℓ) (c : Dev nD)

theorem value (X : FVec Ideal S4x8192x1024 .f32) (SL : FVec Ideal S32x1024 .f32) (U : FVec Ideal S32 .f32)
    (h0 : m ((c : Thread nD τ).loc main_arg0) = X) (h1 : m ((c : Thread nD τ).loc main_arg1) = SL)
    (h2 : m ((c : Thread nD τ).loc main_arg2) = U) (b : Fin 4) (l : Fin 8192) (d : Fin 1024) :
    (res_out0 m c : FVec Ideal S4x8192x1024 .f32) (ix3 b l d)
      = if 0 < ∑ k : Fin 32, U (ix1 k) then
          rOut ε Consts.τ (fun j : Fin 1024 => X (ix3 b l j)) (fun (k : Fin 32) j => SL (ix2 k j)) d
        else 0 := by
  unfold res_out0 res_main_v28
  rw [h0, h1, h2]
  pointwise
  rw [ofBits_ε, ofBits_τ, ofBits_bot]
  simp only [rOut, rScore]

end Cert.ReferenceIdeal.Hand

end
-- ==== Proof.Equal.lean ====
/-
  The value claim: of the same arguments the kernel and the reference end with the same array over the reals.
-/
module

public import proofs.«01_k».proof.Defs
public import proofs.«01_k».proof.Proof.KernelValue
public import proofs.«01_k».proof.Proof.ReferenceValue

@[expose] public section

noncomputable section

open Idealize.ShloMosaic Idealize.ShloMosaic.TcCoe Idealize.SL.Sem

namespace Cert.Proof

/-- The two results are one array, where the arguments agree. -/
theorem arrays_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) :
    (Cert.ReferenceIdeal.Value.res_out0 m' c : FVec Ideal Cert.ReferenceIdeal.S4x8192x1024 .f32)
      = shapeCast Cert.KernelIdeal.S4x8192x1024 (Cert.KernelIdeal.Hand.result m c : FVec Ideal Cert.KernelIdeal.S32768x1024 .f32)
          Cert.KernelIdeal.Gen.shapeCasts_S32768x1024_S4x8192x1024 := by
  funext i
  have hi : i = ix3 (i 0) (i 1) (i 2) := by
    funext a
    match a with
    | ⟨0, _⟩ => rfl
    | ⟨1, _⟩ => rfl
    | ⟨2, _⟩ => rfl
  rw [hi]
  refine (Cert.ReferenceIdeal.Hand.value m' c _ _ _ h0 h1 h2 (i 0) (i 1) (i 2)).trans ?_
  refine Eq.trans ?_ (Cert.KernelIdeal.Hand.value c m _ _ _ rfl rfl rfl (i 0) (i 1) (i 2)).symm
  exact (Cert.Formula.out_eq Cert.Consts.ε_pos Cert.Consts.τ_pos _ _ _ _).symm

theorem algebraic : Cert.algebraic_KernelIdeal_ReferenceIdeal := by
  intro m ρ m' ρ' _ hagree
  refine ⟨_, (θ_run Cert.KernelIdeal.defs _ _).mono (fun _ h => h.1) (Cert.KernelIdeal.Hand.runs (F := Ideal) m ρ), ?_⟩
  refine (θ_run Cert.ReferenceIdeal.defs _ _).mono (fun _ h c => ⟨(h c).1.trans ?_, (h c).2⟩)
    (Cert.ReferenceIdeal.Value.run (F := Ideal) m' ρ')
  exact arrays_eq m m' c (hagree c).1 (hagree c).2.1 (hagree c).2.2

end Cert.Proof

end
-- ==== Proof.lean ====
module

public import proofs.«01_k».proof.Defs
public import proofs.«01_k».proof.Proof.Frames
public import proofs.«01_k».proof.Proof.Equal
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import Idealize.ShloMosaic.Adequacy
public import Idealize.ShloMosaic.Init

@[expose] public section

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts, frame_p, frame_pi, frame_ri,
    preserves, algebraic⟩

end Cert.Proof

end
